-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S32x16x512 : Shape := ⟨3, ![32, 16, 512]⟩
abbrev S32 : Shape := ⟨1, ![32]⟩
abbrev S_ : Shape := ⟨0, ![]⟩
abbrev S512x128 : Shape := ⟨2, ![512, 128]⟩
abbrev S512 : Shape := ⟨1, ![512]⟩
abbrev S1x256x512 : Shape := ⟨3, ![1, 256, 512]⟩
abbrev S1 : Shape := ⟨1, ![1]⟩
abbrev S1x16x512 : Shape := ⟨3, ![1, 16, 512]⟩
abbrev S16x512 : Shape := ⟨2, ![16, 512]⟩

abbrev nBuf : Space → Nat
  | .hbm => 6
  | .vmem => 9
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x128, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S512x512, .f32⟩
  | .local _ .vmem, ⟨6, _⟩ => ⟨S512x512, .bf16⟩
  | .local _ .vmem, ⟨7, _⟩ => ⟨S32x16x512, .bf16⟩
  | .local _ .vmem, ⟨8, _⟩ => ⟨S32x16x512, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_476 : BitVec 32 := 0#32
  let c0_i32_474 : BitVec 32 := 0#32
  let c1_i32_475 : BitVec 32 := 1#32
  let v777 : BitVec 32 := Scalar.muli c0_i32_474 c1_i32_475
  let v778 : BitVec 32 := Scalar.addi c0_i32_476 v777
  v778.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_476 : BitVec 32 := 0#32
  let c1_i32_474 : BitVec 32 := 1#32
  let c1_i32_475 : BitVec 32 := 1#32
  let v777 : BitVec 32 := Scalar.muli c1_i32_474 c1_i32_475
  let v778 : BitVec 32 := Scalar.addi c0_i32_476 v777
  v778.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_476 : BitVec 32 := 0#32
  let c2_i32_474 : BitVec 32 := 2#32
  let c1_i32_475 : BitVec 32 := 1#32
  let v777 : BitVec 32 := Scalar.muli c2_i32_474 c1_i32_475
  let v778 : BitVec 32 := Scalar.addi c0_i32_476 v777
  v778.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_476 : BitVec 32 := 0#32
  let c3_i32_474 : BitVec 32 := 3#32
  let c1_i32_475 : BitVec 32 := 1#32
  let v777 : BitVec 32 := Scalar.muli c3_i32_474 c1_i32_475
  let v778 : BitVec 32 := Scalar.addi c0_i32_476 v777
  v778.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_476 : BitVec 32 := 0#32
  let c4_i32_474 : BitVec 32 := 4#32
  let c1_i32_475 : BitVec 32 := 1#32
  let v777 : BitVec 32 := Scalar.muli c4_i32_474 c1_i32_475
  let v778 : BitVec 32 := Scalar.addi c0_i32_476 v777
  v778.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_476 : BitVec 32 := 0#32
  let c5_i32_474 : BitVec 32 := 5#32
  let c1_i32_475 : BitVec 32 := 1#32
  let v777 : BitVec 32 := Scalar.muli c5_i32_474 c1_i32_475
  let v778 : BitVec 32 := Scalar.addi c0_i32_476 v777
  v778.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_476 : BitVec 32 := 0#32
  let c6_i32_474 : BitVec 32 := 6#32
  let c1_i32_475 : BitVec 32 := 1#32
  let v777 : BitVec 32 := Scalar.muli c6_i32_474 c1_i32_475
  let v778 : BitVec 32 := Scalar.addi c0_i32_476 v777
  v778.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_476 : BitVec 32 := 0#32
  let c7_i32_474 : BitVec 32 := 7#32
  let c1_i32_475 : BitVec 32 := 1#32
  let v777 : BitVec 32 := Scalar.muli c7_i32_474 c1_i32_475
  let v778 : BitVec 32 := Scalar.addi c0_i32_476 v777
  v778.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_476 : BitVec 32 := 0#32
  let c8_i32_474 : BitVec 32 := 8#32
  let c1_i32_475 : BitVec 32 := 1#32
  let v777 : BitVec 32 := Scalar.muli c8_i32_474 c1_i32_475
  let v778 : BitVec 32 := Scalar.addi c0_i32_476 v777
  v778.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_476 : BitVec 32 := 0#32
  let c9_i32_474 : BitVec 32 := 9#32
  let c1_i32_475 : BitVec 32 := 1#32
  let v777 : BitVec 32 := Scalar.muli c9_i32_474 c1_i32_475
  let v778 : BitVec 32 := Scalar.addi c0_i32_476 v777
  v778.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_476 : BitVec 32 := 0#32
  let c10_i32_474 : BitVec 32 := 10#32
  let c1_i32_475 : BitVec 32 := 1#32
  let v777 : BitVec 32 := Scalar.muli c10_i32_474 c1_i32_475
  let v778 : BitVec 32 := Scalar.addi c0_i32_476 v777
  v778.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_476 : BitVec 32 := 0#32
  let c11_i32_474 : BitVec 32 := 11#32
  let c1_i32_475 : BitVec 32 := 1#32
  let v777 : BitVec 32 := Scalar.muli c11_i32_474 c1_i32_475
  let v778 : BitVec 32 := Scalar.addi c0_i32_476 v777
  v778.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_476 : BitVec 32 := 0#32
  let c12_i32_474 : BitVec 32 := 12#32
  let c1_i32_475 : BitVec 32 := 1#32
  let v777 : BitVec 32 := Scalar.muli c12_i32_474 c1_i32_475
  let v778 : BitVec 32 := Scalar.addi c0_i32_476 v777
  v778.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_476 : BitVec 32 := 0#32
  let c13_i32_474 : BitVec 32 := 13#32
  let c1_i32_475 : BitVec 32 := 1#32
  let v777 : BitVec 32 := Scalar.muli c13_i32_474 c1_i32_475
  let v778 : BitVec 32 := Scalar.addi c0_i32_476 v777
  v778.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_476 : BitVec 32 := 0#32
  let c14_i32_474 : BitVec 32 := 14#32
  let c1_i32_475 : BitVec 32 := 1#32
  let v777 : BitVec 32 := Scalar.muli c14_i32_474 c1_i32_475
  let v778 : BitVec 32 := Scalar.addi c0_i32_476 v777
  v778.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_476 : BitVec 32 := 0#32
  let c15_i32_474 : BitVec 32 := 15#32
  let c1_i32_475 : BitVec 32 := 1#32
  let v777 : BitVec 32 := Scalar.muli c15_i32_474 c1_i32_475
  let v778 : BitVec 32 := Scalar.addi c0_i32_476 v777
  v778.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_476 : BitVec 32 := 0#32
  let c16_i32_474 : BitVec 32 := 16#32
  let c1_i32_475 : BitVec 32 := 1#32
  let v777 : BitVec 32 := Scalar.muli c16_i32_474 c1_i32_475
  let v778 : BitVec 32 := Scalar.addi c0_i32_476 v777
  v778.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_476 : BitVec 32 := 0#32
  let c17_i32_474 : BitVec 32 := 17#32
  let c1_i32_475 : BitVec 32 := 1#32
  let v777 : BitVec 32 := Scalar.muli c17_i32_474 c1_i32_475
  let v778 : BitVec 32 := Scalar.addi c0_i32_476 v777
  v778.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_476 : BitVec 32 := 0#32
  let c18_i32_474 : BitVec 32 := 18#32
  let c1_i32_475 : BitVec 32 := 1#32
  let v777 : BitVec 32 := Scalar.muli c18_i32_474 c1_i32_475
  let v778 : BitVec 32 := Scalar.addi c0_i32_476 v777
  v778.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_476 : BitVec 32 := 0#32
  let c19_i32_474 : BitVec 32 := 19#32
  let c1_i32_475 : BitVec 32 := 1#32
  let v777 : BitVec 32 := Scalar.muli c19_i32_474 c1_i32_475
  let v778 : BitVec 32 := Scalar.addi c0_i32_476 v777
  v778.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_476 : BitVec 32 := 0#32
  let c20_i32_474 : BitVec 32 := 20#32
  let c1_i32_475 : BitVec 32 := 1#32
  let v777 : BitVec 32 := Scalar.muli c20_i32_474 c1_i32_475
  let v778 : BitVec 32 := Scalar.addi c0_i32_476 v777
  v778.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_476 : BitVec 32 := 0#32
  let c21_i32_474 : BitVec 32 := 21#32
  let c1_i32_475 : BitVec 32 := 1#32
  let v777 : BitVec 32 := Scalar.muli c21_i32_474 c1_i32_475
  let v778 : BitVec 32 := Scalar.addi c0_i32_476 v777
  v778.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_476 : BitVec 32 := 0#32
  let c22_i32_474 : BitVec 32 := 22#32
  let c1_i32_475 : BitVec 32 := 1#32
  let v777 : BitVec 32 := Scalar.muli c22_i32_474 c1_i32_475
  let v778 : BitVec 32 := Scalar.addi c0_i32_476 v777
  v778.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_476 : BitVec 32 := 0#32
  let c23_i32_474 : BitVec 32 := 23#32
  let c1_i32_475 : BitVec 32 := 1#32
  let v777 : BitVec 32 := Scalar.muli c23_i32_474 c1_i32_475
  let v778 : BitVec 32 := Scalar.addi c0_i32_476 v777
  v778.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_476 : BitVec 32 := 0#32
  let c24_i32_474 : BitVec 32 := 24#32
  let c1_i32_475 : BitVec 32 := 1#32
  let v777 : BitVec 32 := Scalar.muli c24_i32_474 c1_i32_475
  let v778 : BitVec 32 := Scalar.addi c0_i32_476 v777
  v778.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_476 : BitVec 32 := 0#32
  let c25_i32_474 : BitVec 32 := 25#32
  let c1_i32_475 : BitVec 32 := 1#32
  let v777 : BitVec 32 := Scalar.muli c25_i32_474 c1_i32_475
  let v778 : BitVec 32 := Scalar.addi c0_i32_476 v777
  v778.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_476 : BitVec 32 := 0#32
  let c26_i32_474 : BitVec 32 := 26#32
  let c1_i32_475 : BitVec 32 := 1#32
  let v777 : BitVec 32 := Scalar.muli c26_i32_474 c1_i32_475
  let v778 : BitVec 32 := Scalar.addi c0_i32_476 v777
  v778.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_476 : BitVec 32 := 0#32
  let c27_i32_474 : BitVec 32 := 27#32
  let c1_i32_475 : BitVec 32 := 1#32
  let v777 : BitVec 32 := Scalar.muli c27_i32_474 c1_i32_475
  let v778 : BitVec 32 := Scalar.addi c0_i32_476 v777
  v778.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_476 : BitVec 32 := 0#32
  let c28_i32_474 : BitVec 32 := 28#32
  let c1_i32_475 : BitVec 32 := 1#32
  let v777 : BitVec 32 := Scalar.muli c28_i32_474 c1_i32_475
  let v778 : BitVec 32 := Scalar.addi c0_i32_476 v777
  v778.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_476 : BitVec 32 := 0#32
  let c29_i32_474 : BitVec 32 := 29#32
  let c1_i32_475 : BitVec 32 := 1#32
  let v777 : BitVec 32 := Scalar.muli c29_i32_474 c1_i32_475
  let v778 : BitVec 32 := Scalar.addi c0_i32_476 v777
  v778.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_476 : BitVec 32 := 0#32
  let c30_i32_474 : BitVec 32 := 30#32
  let c1_i32_475 : BitVec 32 := 1#32
  let v777 : BitVec 32 := Scalar.muli c30_i32_474 c1_i32_475
  let v778 : BitVec 32 := Scalar.addi c0_i32_476 v777
  v778.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_476 : BitVec 32 := 0#32
  let c31_i32_474 : BitVec 32 := 31#32
  let c1_i32_475 : BitVec 32 := 1#32
  let v777 : BitVec 32 := Scalar.muli c31_i32_474 c1_i32_475
  let v778 : BitVec 32 := Scalar.addi c0_i32_476 v777
  v778.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_71 : BitVec 32 := 0#32
  let v176 : BitVec 1 := Scalar.cmpi .ne v2 c0_i32_71
  let v177 : BitVec 32 := Scalar.extui v176
  let c0_i32_72 : BitVec 32 := 0#32
  let v178 : BitVec 1 := Scalar.cmpi .ne v177 c0_i32_72
  v178

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev33 : Nat :=
  let c0_i32_476 : BitVec 32 := 0#32
  let c0_i32_474 : BitVec 32 := 0#32
  let c1_i32_475 : BitVec 32 := 1#32
  let v777 : BitVec 32 := Scalar.muli c0_i32_474 c1_i32_475
  let v778 : BitVec 32 := Scalar.addi c0_i32_476 v777
  v778.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_73 : BitVec 32 := 1#32
  let v179 : BitVec 1 := Scalar.cmpi .ne v2 c1_i32_73
  let v180 : BitVec 32 := Scalar.extui v179
  let c0_i32_74 : BitVec 32 := 0#32
  let v181 : BitVec 1 := Scalar.cmpi .ne v180 c0_i32_74
  v181

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev34 : Nat :=
  let c0_i32_476 : BitVec 32 := 0#32
  let c1_i32_474 : BitVec 32 := 1#32
  let c1_i32_475 : BitVec 32 := 1#32
  let v777 : BitVec 32 := Scalar.muli c1_i32_474 c1_i32_475
  let v778 : BitVec 32 := Scalar.addi c0_i32_476 v777
  v778.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_75 : BitVec 32 := 2#32
  let v182 : BitVec 1 := Scalar.cmpi .ne v2 c2_i32_75
  let v183 : BitVec 32 := Scalar.extui v182
  let c0_i32_76 : BitVec 32 := 0#32
  let v184 : BitVec 1 := Scalar.cmpi .ne v183 c0_i32_76
  v184

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev35 : Nat :=
  let c0_i32_476 : BitVec 32 := 0#32
  let c2_i32_474 : BitVec 32 := 2#32
  let c1_i32_475 : BitVec 32 := 1#32
  let v777 : BitVec 32 := Scalar.muli c2_i32_474 c1_i32_475
  let v778 : BitVec 32 := Scalar.addi c0_i32_476 v777
  v778.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_77 : BitVec 32 := 3#32
  let v185 : BitVec 1 := Scalar.cmpi .ne v2 c3_i32_77
  let v186 : BitVec 32 := Scalar.extui v185
  let c0_i32_78 : BitVec 32 := 0#32
  let v187 : BitVec 1 := Scalar.cmpi .ne v186 c0_i32_78
  v187

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev36 : Nat :=
  let c0_i32_476 : BitVec 32 := 0#32
  let c3_i32_474 : BitVec 32 := 3#32
  let c1_i32_475 : BitVec 32 := 1#32
  let v777 : BitVec 32 := Scalar.muli c3_i32_474 c1_i32_475
  let v778 : BitVec 32 := Scalar.addi c0_i32_476 v777
  v778.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_79 : BitVec 32 := 4#32
  let v188 : BitVec 1 := Scalar.cmpi .ne v2 c4_i32_79
  let v189 : BitVec 32 := Scalar.extui v188
  let c0_i32_80 : BitVec 32 := 0#32
  let v190 : BitVec 1 := Scalar.cmpi .ne v189 c0_i32_80
  v190

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev37 : Nat :=
  let c0_i32_476 : BitVec 32 := 0#32
  let c4_i32_474 : BitVec 32 := 4#32
  let c1_i32_475 : BitVec 32 := 1#32
  let v777 : BitVec 32 := Scalar.muli c4_i32_474 c1_i32_475
  let v778 : BitVec 32 := Scalar.addi c0_i32_476 v777
  v778.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_81 : BitVec 32 := 5#32
  let v191 : BitVec 1 := Scalar.cmpi .ne v2 c5_i32_81
  let v192 : BitVec 32 := Scalar.extui v191
  let c0_i32_82 : BitVec 32 := 0#32
  let v193 : BitVec 1 := Scalar.cmpi .ne v192 c0_i32_82
  v193

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev38 : Nat :=
  let c0_i32_476 : BitVec 32 := 0#32
  let c5_i32_474 : BitVec 32 := 5#32
  let c1_i32_475 : BitVec 32 := 1#32
  let v777 : BitVec 32 := Scalar.muli c5_i32_474 c1_i32_475
  let v778 : BitVec 32 := Scalar.addi c0_i32_476 v777
  v778.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_83 : BitVec 32 := 6#32
  let v194 : BitVec 1 := Scalar.cmpi .ne v2 c6_i32_83
  let v195 : BitVec 32 := Scalar.extui v194
  let c0_i32_84 : BitVec 32 := 0#32
  let v196 : BitVec 1 := Scalar.cmpi .ne v195 c0_i32_84
  v196

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev39 : Nat :=
  let c0_i32_476 : BitVec 32 := 0#32
  let c6_i32_474 : BitVec 32 := 6#32
  let c1_i32_475 : BitVec 32 := 1#32
  let v777 : BitVec 32 := Scalar.muli c6_i32_474 c1_i32_475
  let v778 : BitVec 32 := Scalar.addi c0_i32_476 v777
  v778.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_85 : BitVec 32 := 7#32
  let v197 : BitVec 1 := Scalar.cmpi .ne v2 c7_i32_85
  let v198 : BitVec 32 := Scalar.extui v197
  let c0_i32_86 : BitVec 32 := 0#32
  let v199 : BitVec 1 := Scalar.cmpi .ne v198 c0_i32_86
  v199

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev40 : Nat :=
  let c0_i32_476 : BitVec 32 := 0#32
  let c7_i32_474 : BitVec 32 := 7#32
  let c1_i32_475 : BitVec 32 := 1#32
  let v777 : BitVec 32 := Scalar.muli c7_i32_474 c1_i32_475
  let v778 : BitVec 32 := Scalar.addi c0_i32_476 v777
  v778.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_87 : BitVec 32 := 8#32
  let v200 : BitVec 1 := Scalar.cmpi .ne v2 c8_i32_87
  let v201 : BitVec 32 := Scalar.extui v200
  let c0_i32_88 : BitVec 32 := 0#32
  let v202 : BitVec 1 := Scalar.cmpi .ne v201 c0_i32_88
  v202

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev41 : Nat :=
  let c0_i32_476 : BitVec 32 := 0#32
  let c8_i32_474 : BitVec 32 := 8#32
  let c1_i32_475 : BitVec 32 := 1#32
  let v777 : BitVec 32 := Scalar.muli c8_i32_474 c1_i32_475
  let v778 : BitVec 32 := Scalar.addi c0_i32_476 v777
  v778.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_89 : BitVec 32 := 9#32
  let v203 : BitVec 1 := Scalar.cmpi .ne v2 c9_i32_89
  let v204 : BitVec 32 := Scalar.extui v203
  let c0_i32_90 : BitVec 32 := 0#32
  let v205 : BitVec 1 := Scalar.cmpi .ne v204 c0_i32_90
  v205

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev42 : Nat :=
  let c0_i32_476 : BitVec 32 := 0#32
  let c9_i32_474 : BitVec 32 := 9#32
  let c1_i32_475 : BitVec 32 := 1#32
  let v777 : BitVec 32 := Scalar.muli c9_i32_474 c1_i32_475
  let v778 : BitVec 32 := Scalar.addi c0_i32_476 v777
  v778.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_91 : BitVec 32 := 10#32
  let v206 : BitVec 1 := Scalar.cmpi .ne v2 c10_i32_91
  let v207 : BitVec 32 := Scalar.extui v206
  let c0_i32_92 : BitVec 32 := 0#32
  let v208 : BitVec 1 := Scalar.cmpi .ne v207 c0_i32_92
  v208

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev43 : Nat :=
  let c0_i32_476 : BitVec 32 := 0#32
  let c10_i32_474 : BitVec 32 := 10#32
  let c1_i32_475 : BitVec 32 := 1#32
  let v777 : BitVec 32 := Scalar.muli c10_i32_474 c1_i32_475
  let v778 : BitVec 32 := Scalar.addi c0_i32_476 v777
  v778.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_93 : BitVec 32 := 11#32
  let v209 : BitVec 1 := Scalar.cmpi .ne v2 c11_i32_93
  let v210 : BitVec 32 := Scalar.extui v209
  let c0_i32_94 : BitVec 32 := 0#32
  let v211 : BitVec 1 := Scalar.cmpi .ne v210 c0_i32_94
  v211

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev44 : Nat :=
  let c0_i32_476 : BitVec 32 := 0#32
  let c11_i32_474 : BitVec 32 := 11#32
  let c1_i32_475 : BitVec 32 := 1#32
  let v777 : BitVec 32 := Scalar.muli c11_i32_474 c1_i32_475
  let v778 : BitVec 32 := Scalar.addi c0_i32_476 v777
  v778.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_95 : BitVec 32 := 12#32
  let v212 : BitVec 1 := Scalar.cmpi .ne v2 c12_i32_95
  let v213 : BitVec 32 := Scalar.extui v212
  let c0_i32_96 : BitVec 32 := 0#32
  let v214 : BitVec 1 := Scalar.cmpi .ne v213 c0_i32_96
  v214

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev45 : Nat :=
  let c0_i32_476 : BitVec 32 := 0#32
  let c12_i32_474 : BitVec 32 := 12#32
  let c1_i32_475 : BitVec 32 := 1#32
  let v777 : BitVec 32 := Scalar.muli c12_i32_474 c1_i32_475
  let v778 : BitVec 32 := Scalar.addi c0_i32_476 v777
  v778.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_97 : BitVec 32 := 13#32
  let v215 : BitVec 1 := Scalar.cmpi .ne v2 c13_i32_97
  let v216 : BitVec 32 := Scalar.extui v215
  let c0_i32_98 : BitVec 32 := 0#32
  let v217 : BitVec 1 := Scalar.cmpi .ne v216 c0_i32_98
  v217

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev46 : Nat :=
  let c0_i32_476 : BitVec 32 := 0#32
  let c13_i32_474 : BitVec 32 := 13#32
  let c1_i32_475 : BitVec 32 := 1#32
  let v777 : BitVec 32 := Scalar.muli c13_i32_474 c1_i32_475
  let v778 : BitVec 32 := Scalar.addi c0_i32_476 v777
  v778.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_99 : BitVec 32 := 14#32
  let v218 : BitVec 1 := Scalar.cmpi .ne v2 c14_i32_99
  let v219 : BitVec 32 := Scalar.extui v218
  let c0_i32_100 : BitVec 32 := 0#32
  let v220 : BitVec 1 := Scalar.cmpi .ne v219 c0_i32_100
  v220

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev47 : Nat :=
  let c0_i32_476 : BitVec 32 := 0#32
  let c14_i32_474 : BitVec 32 := 14#32
  let c1_i32_475 : BitVec 32 := 1#32
  let v777 : BitVec 32 := Scalar.muli c14_i32_474 c1_i32_475
  let v778 : BitVec 32 := Scalar.addi c0_i32_476 v777
  v778.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_101 : BitVec 32 := 15#32
  let v221 : BitVec 1 := Scalar.cmpi .ne v2 c15_i32_101
  let v222 : BitVec 32 := Scalar.extui v221
  let c0_i32_102 : BitVec 32 := 0#32
  let v223 : BitVec 1 := Scalar.cmpi .ne v222 c0_i32_102
  v223

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev48 : Nat :=
  let c0_i32_476 : BitVec 32 := 0#32
  let c15_i32_474 : BitVec 32 := 15#32
  let c1_i32_475 : BitVec 32 := 1#32
  let v777 : BitVec 32 := Scalar.muli c15_i32_474 c1_i32_475
  let v778 : BitVec 32 := Scalar.addi c0_i32_476 v777
  v778.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_103 : BitVec 32 := 16#32
  let v224 : BitVec 1 := Scalar.cmpi .ne v2 c16_i32_103
  let v225 : BitVec 32 := Scalar.extui v224
  let c0_i32_104 : BitVec 32 := 0#32
  let v226 : BitVec 1 := Scalar.cmpi .ne v225 c0_i32_104
  v226

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev49 : Nat :=
  let c0_i32_476 : BitVec 32 := 0#32
  let c16_i32_474 : BitVec 32 := 16#32
  let c1_i32_475 : BitVec 32 := 1#32
  let v777 : BitVec 32 := Scalar.muli c16_i32_474 c1_i32_475
  let v778 : BitVec 32 := Scalar.addi c0_i32_476 v777
  v778.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_105 : BitVec 32 := 17#32
  let v227 : BitVec 1 := Scalar.cmpi .ne v2 c17_i32_105
  let v228 : BitVec 32 := Scalar.extui v227
  let c0_i32_106 : BitVec 32 := 0#32
  let v229 : BitVec 1 := Scalar.cmpi .ne v228 c0_i32_106
  v229

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev50 : Nat :=
  let c0_i32_476 : BitVec 32 := 0#32
  let c17_i32_474 : BitVec 32 := 17#32
  let c1_i32_475 : BitVec 32 := 1#32
  let v777 : BitVec 32 := Scalar.muli c17_i32_474 c1_i32_475
  let v778 : BitVec 32 := Scalar.addi c0_i32_476 v777
  v778.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_107 : BitVec 32 := 18#32
  let v230 : BitVec 1 := Scalar.cmpi .ne v2 c18_i32_107
  let v231 : BitVec 32 := Scalar.extui v230
  let c0_i32_108 : BitVec 32 := 0#32
  let v232 : BitVec 1 := Scalar.cmpi .ne v231 c0_i32_108
  v232

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev51 : Nat :=
  let c0_i32_476 : BitVec 32 := 0#32
  let c18_i32_474 : BitVec 32 := 18#32
  let c1_i32_475 : BitVec 32 := 1#32
  let v777 : BitVec 32 := Scalar.muli c18_i32_474 c1_i32_475
  let v778 : BitVec 32 := Scalar.addi c0_i32_476 v777
  v778.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_109 : BitVec 32 := 19#32
  let v233 : BitVec 1 := Scalar.cmpi .ne v2 c19_i32_109
  let v234 : BitVec 32 := Scalar.extui v233
  let c0_i32_110 : BitVec 32 := 0#32
  let v235 : BitVec 1 := Scalar.cmpi .ne v234 c0_i32_110
  v235

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev52 : Nat :=
  let c0_i32_476 : BitVec 32 := 0#32
  let c19_i32_474 : BitVec 32 := 19#32
  let c1_i32_475 : BitVec 32 := 1#32
  let v777 : BitVec 32 := Scalar.muli c19_i32_474 c1_i32_475
  let v778 : BitVec 32 := Scalar.addi c0_i32_476 v777
  v778.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_111 : BitVec 32 := 20#32
  let v236 : BitVec 1 := Scalar.cmpi .ne v2 c20_i32_111
  let v237 : BitVec 32 := Scalar.extui v236
  let c0_i32_112 : BitVec 32 := 0#32
  let v238 : BitVec 1 := Scalar.cmpi .ne v237 c0_i32_112
  v238

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev53 : Nat :=
  let c0_i32_476 : BitVec 32 := 0#32
  let c20_i32_474 : BitVec 32 := 20#32
  let c1_i32_475 : BitVec 32 := 1#32
  let v777 : BitVec 32 := Scalar.muli c20_i32_474 c1_i32_475
  let v778 : BitVec 32 := Scalar.addi c0_i32_476 v777
  v778.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_113 : BitVec 32 := 21#32
  let v239 : BitVec 1 := Scalar.cmpi .ne v2 c21_i32_113
  let v240 : BitVec 32 := Scalar.extui v239
  let c0_i32_114 : BitVec 32 := 0#32
  let v241 : BitVec 1 := Scalar.cmpi .ne v240 c0_i32_114
  v241

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev54 : Nat :=
  let c0_i32_476 : BitVec 32 := 0#32
  let c21_i32_474 : BitVec 32 := 21#32
  let c1_i32_475 : BitVec 32 := 1#32
  let v777 : BitVec 32 := Scalar.muli c21_i32_474 c1_i32_475
  let v778 : BitVec 32 := Scalar.addi c0_i32_476 v777
  v778.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_115 : BitVec 32 := 22#32
  let v242 : BitVec 1 := Scalar.cmpi .ne v2 c22_i32_115
  let v243 : BitVec 32 := Scalar.extui v242
  let c0_i32_116 : BitVec 32 := 0#32
  let v244 : BitVec 1 := Scalar.cmpi .ne v243 c0_i32_116
  v244

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev55 : Nat :=
  let c0_i32_476 : BitVec 32 := 0#32
  let c22_i32_474 : BitVec 32 := 22#32
  let c1_i32_475 : BitVec 32 := 1#32
  let v777 : BitVec 32 := Scalar.muli c22_i32_474 c1_i32_475
  let v778 : BitVec 32 := Scalar.addi c0_i32_476 v777
  v778.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_117 : BitVec 32 := 23#32
  let v245 : BitVec 1 := Scalar.cmpi .ne v2 c23_i32_117
  let v246 : BitVec 32 := Scalar.extui v245
  let c0_i32_118 : BitVec 32 := 0#32
  let v247 : BitVec 1 := Scalar.cmpi .ne v246 c0_i32_118
  v247

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev56 : Nat :=
  let c0_i32_476 : BitVec 32 := 0#32
  let c23_i32_474 : BitVec 32 := 23#32
  let c1_i32_475 : BitVec 32 := 1#32
  let v777 : BitVec 32 := Scalar.muli c23_i32_474 c1_i32_475
  let v778 : BitVec 32 := Scalar.addi c0_i32_476 v777
  v778.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_119 : BitVec 32 := 24#32
  let v248 : BitVec 1 := Scalar.cmpi .ne v2 c24_i32_119
  let v249 : BitVec 32 := Scalar.extui v248
  let c0_i32_120 : BitVec 32 := 0#32
  let v250 : BitVec 1 := Scalar.cmpi .ne v249 c0_i32_120
  v250

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev57 : Nat :=
  let c0_i32_476 : BitVec 32 := 0#32
  let c24_i32_474 : BitVec 32 := 24#32
  let c1_i32_475 : BitVec 32 := 1#32
  let v777 : BitVec 32 := Scalar.muli c24_i32_474 c1_i32_475
  let v778 : BitVec 32 := Scalar.addi c0_i32_476 v777
  v778.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_121 : BitVec 32 := 25#32
  let v251 : BitVec 1 := Scalar.cmpi .ne v2 c25_i32_121
  let v252 : BitVec 32 := Scalar.extui v251
  let c0_i32_122 : BitVec 32 := 0#32
  let v253 : BitVec 1 := Scalar.cmpi .ne v252 c0_i32_122
  v253

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev58 : Nat :=
  let c0_i32_476 : BitVec 32 := 0#32
  let c25_i32_474 : BitVec 32 := 25#32
  let c1_i32_475 : BitVec 32 := 1#32
  let v777 : BitVec 32 := Scalar.muli c25_i32_474 c1_i32_475
  let v778 : BitVec 32 := Scalar.addi c0_i32_476 v777
  v778.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_123 : BitVec 32 := 26#32
  let v254 : BitVec 1 := Scalar.cmpi .ne v2 c26_i32_123
  let v255 : BitVec 32 := Scalar.extui v254
  let c0_i32_124 : BitVec 32 := 0#32
  let v256 : BitVec 1 := Scalar.cmpi .ne v255 c0_i32_124
  v256

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev59 : Nat :=
  let c0_i32_476 : BitVec 32 := 0#32
  let c26_i32_474 : BitVec 32 := 26#32
  let c1_i32_475 : BitVec 32 := 1#32
  let v777 : BitVec 32 := Scalar.muli c26_i32_474 c1_i32_475
  let v778 : BitVec 32 := Scalar.addi c0_i32_476 v777
  v778.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_125 : BitVec 32 := 27#32
  let v257 : BitVec 1 := Scalar.cmpi .ne v2 c27_i32_125
  let v258 : BitVec 32 := Scalar.extui v257
  let c0_i32_126 : BitVec 32 := 0#32
  let v259 : BitVec 1 := Scalar.cmpi .ne v258 c0_i32_126
  v259

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev60 : Nat :=
  let c0_i32_476 : BitVec 32 := 0#32
  let c27_i32_474 : BitVec 32 := 27#32
  let c1_i32_475 : BitVec 32 := 1#32
  let v777 : BitVec 32 := Scalar.muli c27_i32_474 c1_i32_475
  let v778 : BitVec 32 := Scalar.addi c0_i32_476 v777
  v778.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_127 : BitVec 32 := 28#32
  let v260 : BitVec 1 := Scalar.cmpi .ne v2 c28_i32_127
  let v261 : BitVec 32 := Scalar.extui v260
  let c0_i32_128 : BitVec 32 := 0#32
  let v262 : BitVec 1 := Scalar.cmpi .ne v261 c0_i32_128
  v262

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev61 : Nat :=
  let c0_i32_476 : BitVec 32 := 0#32
  let c28_i32_474 : BitVec 32 := 28#32
  let c1_i32_475 : BitVec 32 := 1#32
  let v777 : BitVec 32 := Scalar.muli c28_i32_474 c1_i32_475
  let v778 : BitVec 32 := Scalar.addi c0_i32_476 v777
  v778.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_129 : BitVec 32 := 29#32
  let v263 : BitVec 1 := Scalar.cmpi .ne v2 c29_i32_129
  let v264 : BitVec 32 := Scalar.extui v263
  let c0_i32_130 : BitVec 32 := 0#32
  let v265 : BitVec 1 := Scalar.cmpi .ne v264 c0_i32_130
  v265

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev62 : Nat :=
  let c0_i32_476 : BitVec 32 := 0#32
  let c29_i32_474 : BitVec 32 := 29#32
  let c1_i32_475 : BitVec 32 := 1#32
  let v777 : BitVec 32 := Scalar.muli c29_i32_474 c1_i32_475
  let v778 : BitVec 32 := Scalar.addi c0_i32_476 v777
  v778.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_131 : BitVec 32 := 30#32
  let v266 : BitVec 1 := Scalar.cmpi .ne v2 c30_i32_131
  let v267 : BitVec 32 := Scalar.extui v266
  let c0_i32_132 : BitVec 32 := 0#32
  let v268 : BitVec 1 := Scalar.cmpi .ne v267 c0_i32_132
  v268

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev63 : Nat :=
  let c0_i32_476 : BitVec 32 := 0#32
  let c30_i32_474 : BitVec 32 := 30#32
  let c1_i32_475 : BitVec 32 := 1#32
  let v777 : BitVec 32 := Scalar.muli c30_i32_474 c1_i32_475
  let v778 : BitVec 32 := Scalar.addi c0_i32_476 v777
  v778.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_133 : BitVec 32 := 31#32
  let v269 : BitVec 1 := Scalar.cmpi .ne v2 c31_i32_133
  let v270 : BitVec 32 := Scalar.extui v269
  let c0_i32_134 : BitVec 32 := 0#32
  let v271 : BitVec 1 := Scalar.cmpi .ne v270 c0_i32_134
  v271

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev64 : Nat :=
  let c0_i32_476 : BitVec 32 := 0#32
  let c31_i32_474 : BitVec 32 := 31#32
  let c1_i32_475 : BitVec 32 := 1#32
  let v777 : BitVec 32 := Scalar.muli c31_i32_474 c1_i32_475
  let v778 : BitVec 32 := Scalar.addi c0_i32_476 v777
  v778.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_138 : BitVec 32 := 16#32
  let v275 : BitVec 32 := Scalar.muli v2 c16_i32_138
  let v276 : Index := Scalar.indexCast v275
  let c0_139 : Index := 0#32
  ![v276.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v279 : Index := Scalar.indexCast v2
  let c0_140 : Index := 0#32
  let c0_141 : Index := 0#32
  ![v279.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_212 : BitVec 32 := 0#32
  let v388 : BitVec 1 := Scalar.cmpi .ne v2 c0_i32_212
  let v389 : BitVec 32 := Scalar.extui v388
  let c0_i32_213 : BitVec 32 := 0#32
  let v390 : BitVec 1 := Scalar.cmpi .ne v389 c0_i32_213
  v390

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev65 : Nat :=
  let c0_i32_476 : BitVec 32 := 0#32
  let c0_i32_474 : BitVec 32 := 0#32
  let c1_i32_475 : BitVec 32 := 1#32
  let v777 : BitVec 32 := Scalar.muli c0_i32_474 c1_i32_475
  let v778 : BitVec 32 := Scalar.addi c0_i32_476 v777
  v778.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v391 : BitVec 1 := Scalar.cmpi .ne v2 c1_i32_214
  let v392 : BitVec 32 := Scalar.extui v391
  let c0_i32_215 : BitVec 32 := 0#32
  let v393 : BitVec 1 := Scalar.cmpi .ne v392 c0_i32_215
  v393

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev66 : Nat :=
  let c0_i32_476 : BitVec 32 := 0#32
  let c1_i32_474 : BitVec 32 := 1#32
  let c1_i32_475 : BitVec 32 := 1#32
  let v777 : BitVec 32 := Scalar.muli c1_i32_474 c1_i32_475
  let v778 : BitVec 32 := Scalar.addi c0_i32_476 v777
  v778.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_216 : BitVec 32 := 2#32
  let v394 : BitVec 1 := Scalar.cmpi .ne v2 c2_i32_216
  let v395 : BitVec 32 := Scalar.extui v394
  let c0_i32_217 : BitVec 32 := 0#32
  let v396 : BitVec 1 := Scalar.cmpi .ne v395 c0_i32_217
  v396

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev67 : Nat :=
  let c0_i32_476 : BitVec 32 := 0#32
  let c2_i32_474 : BitVec 32 := 2#32
  let c1_i32_475 : BitVec 32 := 1#32
  let v777 : BitVec 32 := Scalar.muli c2_i32_474 c1_i32_475
  let v778 : BitVec 32 := Scalar.addi c0_i32_476 v777
  v778.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_218 : BitVec 32 := 3#32
  let v397 : BitVec 1 := Scalar.cmpi .ne v2 c3_i32_218
  let v398 : BitVec 32 := Scalar.extui v397
  let c0_i32_219 : BitVec 32 := 0#32
  let v399 : BitVec 1 := Scalar.cmpi .ne v398 c0_i32_219
  v399

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev68 : Nat :=
  let c0_i32_476 : BitVec 32 := 0#32
  let c3_i32_474 : BitVec 32 := 3#32
  let c1_i32_475 : BitVec 32 := 1#32
  let v777 : BitVec 32 := Scalar.muli c3_i32_474 c1_i32_475
  let v778 : BitVec 32 := Scalar.addi c0_i32_476 v777
  v778.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_220 : BitVec 32 := 4#32
  let v400 : BitVec 1 := Scalar.cmpi .ne v2 c4_i32_220
  let v401 : BitVec 32 := Scalar.extui v400
  let c0_i32_221 : BitVec 32 := 0#32
  let v402 : BitVec 1 := Scalar.cmpi .ne v401 c0_i32_221
  v402

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev69 : Nat :=
  let c0_i32_476 : BitVec 32 := 0#32
  let c4_i32_474 : BitVec 32 := 4#32
  let c1_i32_475 : BitVec 32 := 1#32
  let v777 : BitVec 32 := Scalar.muli c4_i32_474 c1_i32_475
  let v778 : BitVec 32 := Scalar.addi c0_i32_476 v777
  v778.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_222 : BitVec 32 := 5#32
  let v403 : BitVec 1 := Scalar.cmpi .ne v2 c5_i32_222
  let v404 : BitVec 32 := Scalar.extui v403
  let c0_i32_223 : BitVec 32 := 0#32
  let v405 : BitVec 1 := Scalar.cmpi .ne v404 c0_i32_223
  v405

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev70 : Nat :=
  let c0_i32_476 : BitVec 32 := 0#32
  let c5_i32_474 : BitVec 32 := 5#32
  let c1_i32_475 : BitVec 32 := 1#32
  let v777 : BitVec 32 := Scalar.muli c5_i32_474 c1_i32_475
  let v778 : BitVec 32 := Scalar.addi c0_i32_476 v777
  v778.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_224 : BitVec 32 := 6#32
  let v406 : BitVec 1 := Scalar.cmpi .ne v2 c6_i32_224
  let v407 : BitVec 32 := Scalar.extui v406
  let c0_i32_225 : BitVec 32 := 0#32
  let v408 : BitVec 1 := Scalar.cmpi .ne v407 c0_i32_225
  v408

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev71 : Nat :=
  let c0_i32_476 : BitVec 32 := 0#32
  let c6_i32_474 : BitVec 32 := 6#32
  let c1_i32_475 : BitVec 32 := 1#32
  let v777 : BitVec 32 := Scalar.muli c6_i32_474 c1_i32_475
  let v778 : BitVec 32 := Scalar.addi c0_i32_476 v777
  v778.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_226 : BitVec 32 := 7#32
  let v409 : BitVec 1 := Scalar.cmpi .ne v2 c7_i32_226
  let v410 : BitVec 32 := Scalar.extui v409
  let c0_i32_227 : BitVec 32 := 0#32
  let v411 : BitVec 1 := Scalar.cmpi .ne v410 c0_i32_227
  v411

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev72 : Nat :=
  let c0_i32_476 : BitVec 32 := 0#32
  let c7_i32_474 : BitVec 32 := 7#32
  let c1_i32_475 : BitVec 32 := 1#32
  let v777 : BitVec 32 := Scalar.muli c7_i32_474 c1_i32_475
  let v778 : BitVec 32 := Scalar.addi c0_i32_476 v777
  v778.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_228 : BitVec 32 := 8#32
  let v412 : BitVec 1 := Scalar.cmpi .ne v2 c8_i32_228
  let v413 : BitVec 32 := Scalar.extui v412
  let c0_i32_229 : BitVec 32 := 0#32
  let v414 : BitVec 1 := Scalar.cmpi .ne v413 c0_i32_229
  v414

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev73 : Nat :=
  let c0_i32_476 : BitVec 32 := 0#32
  let c8_i32_474 : BitVec 32 := 8#32
  let c1_i32_475 : BitVec 32 := 1#32
  let v777 : BitVec 32 := Scalar.muli c8_i32_474 c1_i32_475
  let v778 : BitVec 32 := Scalar.addi c0_i32_476 v777
  v778.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_230 : BitVec 32 := 9#32
  let v415 : BitVec 1 := Scalar.cmpi .ne v2 c9_i32_230
  let v416 : BitVec 32 := Scalar.extui v415
  let c0_i32_231 : BitVec 32 := 0#32
  let v417 : BitVec 1 := Scalar.cmpi .ne v416 c0_i32_231
  v417

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev74 : Nat :=
  let c0_i32_476 : BitVec 32 := 0#32
  let c9_i32_474 : BitVec 32 := 9#32
  let c1_i32_475 : BitVec 32 := 1#32
  let v777 : BitVec 32 := Scalar.muli c9_i32_474 c1_i32_475
  let v778 : BitVec 32 := Scalar.addi c0_i32_476 v777
  v778.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_232 : BitVec 32 := 10#32
  let v418 : BitVec 1 := Scalar.cmpi .ne v2 c10_i32_232
  let v419 : BitVec 32 := Scalar.extui v418
  let c0_i32_233 : BitVec 32 := 0#32
  let v420 : BitVec 1 := Scalar.cmpi .ne v419 c0_i32_233
  v420

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev75 : Nat :=
  let c0_i32_476 : BitVec 32 := 0#32
  let c10_i32_474 : BitVec 32 := 10#32
  let c1_i32_475 : BitVec 32 := 1#32
  let v777 : BitVec 32 := Scalar.muli c10_i32_474 c1_i32_475
  let v778 : BitVec 32 := Scalar.addi c0_i32_476 v777
  v778.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_234 : BitVec 32 := 11#32
  let v421 : BitVec 1 := Scalar.cmpi .ne v2 c11_i32_234
  let v422 : BitVec 32 := Scalar.extui v421
  let c0_i32_235 : BitVec 32 := 0#32
  let v423 : BitVec 1 := Scalar.cmpi .ne v422 c0_i32_235
  v423

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev76 : Nat :=
  let c0_i32_476 : BitVec 32 := 0#32
  let c11_i32_474 : BitVec 32 := 11#32
  let c1_i32_475 : BitVec 32 := 1#32
  let v777 : BitVec 32 := Scalar.muli c11_i32_474 c1_i32_475
  let v778 : BitVec 32 := Scalar.addi c0_i32_476 v777
  v778.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_236 : BitVec 32 := 12#32
  let v424 : BitVec 1 := Scalar.cmpi .ne v2 c12_i32_236
  let v425 : BitVec 32 := Scalar.extui v424
  let c0_i32_237 : BitVec 32 := 0#32
  let v426 : BitVec 1 := Scalar.cmpi .ne v425 c0_i32_237
  v426

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev77 : Nat :=
  let c0_i32_476 : BitVec 32 := 0#32
  let c12_i32_474 : BitVec 32 := 12#32
  let c1_i32_475 : BitVec 32 := 1#32
  let v777 : BitVec 32 := Scalar.muli c12_i32_474 c1_i32_475
  let v778 : BitVec 32 := Scalar.addi c0_i32_476 v777
  v778.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_238 : BitVec 32 := 13#32
  let v427 : BitVec 1 := Scalar.cmpi .ne v2 c13_i32_238
  let v428 : BitVec 32 := Scalar.extui v427
  let c0_i32_239 : BitVec 32 := 0#32
  let v429 : BitVec 1 := Scalar.cmpi .ne v428 c0_i32_239
  v429

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev78 : Nat :=
  let c0_i32_476 : BitVec 32 := 0#32
  let c13_i32_474 : BitVec 32 := 13#32
  let c1_i32_475 : BitVec 32 := 1#32
  let v777 : BitVec 32 := Scalar.muli c13_i32_474 c1_i32_475
  let v778 : BitVec 32 := Scalar.addi c0_i32_476 v777
  v778.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_240 : BitVec 32 := 14#32
  let v430 : BitVec 1 := Scalar.cmpi .ne v2 c14_i32_240
  let v431 : BitVec 32 := Scalar.extui v430
  let c0_i32_241 : BitVec 32 := 0#32
  let v432 : BitVec 1 := Scalar.cmpi .ne v431 c0_i32_241
  v432

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev79 : Nat :=
  let c0_i32_476 : BitVec 32 := 0#32
  let c14_i32_474 : BitVec 32 := 14#32
  let c1_i32_475 : BitVec 32 := 1#32
  let v777 : BitVec 32 := Scalar.muli c14_i32_474 c1_i32_475
  let v778 : BitVec 32 := Scalar.addi c0_i32_476 v777
  v778.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_242 : BitVec 32 := 15#32
  let v433 : BitVec 1 := Scalar.cmpi .ne v2 c15_i32_242
  let v434 : BitVec 32 := Scalar.extui v433
  let c0_i32_243 : BitVec 32 := 0#32
  let v435 : BitVec 1 := Scalar.cmpi .ne v434 c0_i32_243
  v435

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev80 : Nat :=
  let c0_i32_476 : BitVec 32 := 0#32
  let c15_i32_474 : BitVec 32 := 15#32
  let c1_i32_475 : BitVec 32 := 1#32
  let v777 : BitVec 32 := Scalar.muli c15_i32_474 c1_i32_475
  let v778 : BitVec 32 := Scalar.addi c0_i32_476 v777
  v778.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_244 : BitVec 32 := 16#32
  let v436 : BitVec 1 := Scalar.cmpi .ne v2 c16_i32_244
  let v437 : BitVec 32 := Scalar.extui v436
  let c0_i32_245 : BitVec 32 := 0#32
  let v438 : BitVec 1 := Scalar.cmpi .ne v437 c0_i32_245
  v438

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev81 : Nat :=
  let c0_i32_476 : BitVec 32 := 0#32
  let c16_i32_474 : BitVec 32 := 16#32
  let c1_i32_475 : BitVec 32 := 1#32
  let v777 : BitVec 32 := Scalar.muli c16_i32_474 c1_i32_475
  let v778 : BitVec 32 := Scalar.addi c0_i32_476 v777
  v778.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_246 : BitVec 32 := 17#32
  let v439 : BitVec 1 := Scalar.cmpi .ne v2 c17_i32_246
  let v440 : BitVec 32 := Scalar.extui v439
  let c0_i32_247 : BitVec 32 := 0#32
  let v441 : BitVec 1 := Scalar.cmpi .ne v440 c0_i32_247
  v441

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev82 : Nat :=
  let c0_i32_476 : BitVec 32 := 0#32
  let c17_i32_474 : BitVec 32 := 17#32
  let c1_i32_475 : BitVec 32 := 1#32
  let v777 : BitVec 32 := Scalar.muli c17_i32_474 c1_i32_475
  let v778 : BitVec 32 := Scalar.addi c0_i32_476 v777
  v778.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_248 : BitVec 32 := 18#32
  let v442 : BitVec 1 := Scalar.cmpi .ne v2 c18_i32_248
  let v443 : BitVec 32 := Scalar.extui v442
  let c0_i32_249 : BitVec 32 := 0#32
  let v444 : BitVec 1 := Scalar.cmpi .ne v443 c0_i32_249
  v444

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev83 : Nat :=
  let c0_i32_476 : BitVec 32 := 0#32
  let c18_i32_474 : BitVec 32 := 18#32
  let c1_i32_475 : BitVec 32 := 1#32
  let v777 : BitVec 32 := Scalar.muli c18_i32_474 c1_i32_475
  let v778 : BitVec 32 := Scalar.addi c0_i32_476 v777
  v778.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_250 : BitVec 32 := 19#32
  let v445 : BitVec 1 := Scalar.cmpi .ne v2 c19_i32_250
  let v446 : BitVec 32 := Scalar.extui v445
  let c0_i32_251 : BitVec 32 := 0#32
  let v447 : BitVec 1 := Scalar.cmpi .ne v446 c0_i32_251
  v447

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev84 : Nat :=
  let c0_i32_476 : BitVec 32 := 0#32
  let c19_i32_474 : BitVec 32 := 19#32
  let c1_i32_475 : BitVec 32 := 1#32
  let v777 : BitVec 32 := Scalar.muli c19_i32_474 c1_i32_475
  let v778 : BitVec 32 := Scalar.addi c0_i32_476 v777
  v778.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_252 : BitVec 32 := 20#32
  let v448 : BitVec 1 := Scalar.cmpi .ne v2 c20_i32_252
  let v449 : BitVec 32 := Scalar.extui v448
  let c0_i32_253 : BitVec 32 := 0#32
  let v450 : BitVec 1 := Scalar.cmpi .ne v449 c0_i32_253
  v450

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev85 : Nat :=
  let c0_i32_476 : BitVec 32 := 0#32
  let c20_i32_474 : BitVec 32 := 20#32
  let c1_i32_475 : BitVec 32 := 1#32
  let v777 : BitVec 32 := Scalar.muli c20_i32_474 c1_i32_475
  let v778 : BitVec 32 := Scalar.addi c0_i32_476 v777
  v778.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_254 : BitVec 32 := 21#32
  let v451 : BitVec 1 := Scalar.cmpi .ne v2 c21_i32_254
  let v452 : BitVec 32 := Scalar.extui v451
  let c0_i32_255 : BitVec 32 := 0#32
  let v453 : BitVec 1 := Scalar.cmpi .ne v452 c0_i32_255
  v453

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev86 : Nat :=
  let c0_i32_476 : BitVec 32 := 0#32
  let c21_i32_474 : BitVec 32 := 21#32
  let c1_i32_475 : BitVec 32 := 1#32
  let v777 : BitVec 32 := Scalar.muli c21_i32_474 c1_i32_475
  let v778 : BitVec 32 := Scalar.addi c0_i32_476 v777
  v778.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_256 : BitVec 32 := 22#32
  let v454 : BitVec 1 := Scalar.cmpi .ne v2 c22_i32_256
  let v455 : BitVec 32 := Scalar.extui v454
  let c0_i32_257 : BitVec 32 := 0#32
  let v456 : BitVec 1 := Scalar.cmpi .ne v455 c0_i32_257
  v456

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev87 : Nat :=
  let c0_i32_476 : BitVec 32 := 0#32
  let c22_i32_474 : BitVec 32 := 22#32
  let c1_i32_475 : BitVec 32 := 1#32
  let v777 : BitVec 32 := Scalar.muli c22_i32_474 c1_i32_475
  let v778 : BitVec 32 := Scalar.addi c0_i32_476 v777
  v778.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_258 : BitVec 32 := 23#32
  let v457 : BitVec 1 := Scalar.cmpi .ne v2 c23_i32_258
  let v458 : BitVec 32 := Scalar.extui v457
  let c0_i32_259 : BitVec 32 := 0#32
  let v459 : BitVec 1 := Scalar.cmpi .ne v458 c0_i32_259
  v459

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev88 : Nat :=
  let c0_i32_476 : BitVec 32 := 0#32
  let c23_i32_474 : BitVec 32 := 23#32
  let c1_i32_475 : BitVec 32 := 1#32
  let v777 : BitVec 32 := Scalar.muli c23_i32_474 c1_i32_475
  let v778 : BitVec 32 := Scalar.addi c0_i32_476 v777
  v778.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_260 : BitVec 32 := 24#32
  let v460 : BitVec 1 := Scalar.cmpi .ne v2 c24_i32_260
  let v461 : BitVec 32 := Scalar.extui v460
  let c0_i32_261 : BitVec 32 := 0#32
  let v462 : BitVec 1 := Scalar.cmpi .ne v461 c0_i32_261
  v462

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev89 : Nat :=
  let c0_i32_476 : BitVec 32 := 0#32
  let c24_i32_474 : BitVec 32 := 24#32
  let c1_i32_475 : BitVec 32 := 1#32
  let v777 : BitVec 32 := Scalar.muli c24_i32_474 c1_i32_475
  let v778 : BitVec 32 := Scalar.addi c0_i32_476 v777
  v778.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_262 : BitVec 32 := 25#32
  let v463 : BitVec 1 := Scalar.cmpi .ne v2 c25_i32_262
  let v464 : BitVec 32 := Scalar.extui v463
  let c0_i32_263 : BitVec 32 := 0#32
  let v465 : BitVec 1 := Scalar.cmpi .ne v464 c0_i32_263
  v465

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev90 : Nat :=
  let c0_i32_476 : BitVec 32 := 0#32
  let c25_i32_474 : BitVec 32 := 25#32
  let c1_i32_475 : BitVec 32 := 1#32
  let v777 : BitVec 32 := Scalar.muli c25_i32_474 c1_i32_475
  let v778 : BitVec 32 := Scalar.addi c0_i32_476 v777
  v778.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_264 : BitVec 32 := 26#32
  let v466 : BitVec 1 := Scalar.cmpi .ne v2 c26_i32_264
  let v467 : BitVec 32 := Scalar.extui v466
  let c0_i32_265 : BitVec 32 := 0#32
  let v468 : BitVec 1 := Scalar.cmpi .ne v467 c0_i32_265
  v468

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev91 : Nat :=
  let c0_i32_476 : BitVec 32 := 0#32
  let c26_i32_474 : BitVec 32 := 26#32
  let c1_i32_475 : BitVec 32 := 1#32
  let v777 : BitVec 32 := Scalar.muli c26_i32_474 c1_i32_475
  let v778 : BitVec 32 := Scalar.addi c0_i32_476 v777
  v778.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_266 : BitVec 32 := 27#32
  let v469 : BitVec 1 := Scalar.cmpi .ne v2 c27_i32_266
  let v470 : BitVec 32 := Scalar.extui v469
  let c0_i32_267 : BitVec 32 := 0#32
  let v471 : BitVec 1 := Scalar.cmpi .ne v470 c0_i32_267
  v471

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev92 : Nat :=
  let c0_i32_476 : BitVec 32 := 0#32
  let c27_i32_474 : BitVec 32 := 27#32
  let c1_i32_475 : BitVec 32 := 1#32
  let v777 : BitVec 32 := Scalar.muli c27_i32_474 c1_i32_475
  let v778 : BitVec 32 := Scalar.addi c0_i32_476 v777
  v778.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_268 : BitVec 32 := 28#32
  let v472 : BitVec 1 := Scalar.cmpi .ne v2 c28_i32_268
  let v473 : BitVec 32 := Scalar.extui v472
  let c0_i32_269 : BitVec 32 := 0#32
  let v474 : BitVec 1 := Scalar.cmpi .ne v473 c0_i32_269
  v474

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev93 : Nat :=
  let c0_i32_476 : BitVec 32 := 0#32
  let c28_i32_474 : BitVec 32 := 28#32
  let c1_i32_475 : BitVec 32 := 1#32
  let v777 : BitVec 32 := Scalar.muli c28_i32_474 c1_i32_475
  let v778 : BitVec 32 := Scalar.addi c0_i32_476 v777
  v778.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_270 : BitVec 32 := 29#32
  let v475 : BitVec 1 := Scalar.cmpi .ne v2 c29_i32_270
  let v476 : BitVec 32 := Scalar.extui v475
  let c0_i32_271 : BitVec 32 := 0#32
  let v477 : BitVec 1 := Scalar.cmpi .ne v476 c0_i32_271
  v477

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev94 : Nat :=
  let c0_i32_476 : BitVec 32 := 0#32
  let c29_i32_474 : BitVec 32 := 29#32
  let c1_i32_475 : BitVec 32 := 1#32
  let v777 : BitVec 32 := Scalar.muli c29_i32_474 c1_i32_475
  let v778 : BitVec 32 := Scalar.addi c0_i32_476 v777
  v778.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_272 : BitVec 32 := 30#32
  let v478 : BitVec 1 := Scalar.cmpi .ne v2 c30_i32_272
  let v479 : BitVec 32 := Scalar.extui v478
  let c0_i32_273 : BitVec 32 := 0#32
  let v480 : BitVec 1 := Scalar.cmpi .ne v479 c0_i32_273
  v480

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev95 : Nat :=
  let c0_i32_476 : BitVec 32 := 0#32
  let c30_i32_474 : BitVec 32 := 30#32
  let c1_i32_475 : BitVec 32 := 1#32
  let v777 : BitVec 32 := Scalar.muli c30_i32_474 c1_i32_475
  let v778 : BitVec 32 := Scalar.addi c0_i32_476 v777
  v778.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_274 : BitVec 32 := 31#32
  let v481 : BitVec 1 := Scalar.cmpi .ne v2 c31_i32_274
  let v482 : BitVec 32 := Scalar.extui v481
  let c0_i32_275 : BitVec 32 := 0#32
  let v483 : BitVec 1 := Scalar.cmpi .ne v482 c0_i32_275
  v483

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_dev96 : Nat :=
  let c0_i32_476 : BitVec 32 := 0#32
  let c31_i32_474 : BitVec 32 := 31#32
  let c1_i32_475 : BitVec 32 := 1#32
  let v777 : BitVec 32 := Scalar.muli c31_i32_474 c1_i32_475
  let v778 : BitVec 32 := Scalar.addi c0_i32_476 v777
  v778.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_276 : BitVec 32 := 0#32
  let v484 : BitVec 1 := Scalar.cmpi .ne v2 c0_i32_276
  let v485 : BitVec 32 := Scalar.extui v484
  let c0_i32_277 : BitVec 32 := 0#32
  let v486 : BitVec 1 := Scalar.cmpi .ne v485 c0_i32_277
  v486

def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_478 : BitVec 32 := 0#32
  let c0_i32_479 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_278 : BitVec 32 := 1#32
  let v487 : BitVec 1 := Scalar.cmpi .ne v2 c1_i32_278
  let v488 : BitVec 32 := Scalar.extui v487
  let c0_i32_279 : BitVec 32 := 0#32
  let v489 : BitVec 1 := Scalar.cmpi .ne v488 c0_i32_279
  v489

def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_478 : BitVec 32 := 0#32
  let c0_i32_479 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_280 : BitVec 32 := 2#32
  let v490 : BitVec 1 := Scalar.cmpi .ne v2 c2_i32_280
  let v491 : BitVec 32 := Scalar.extui v490
  let c0_i32_281 : BitVec 32 := 0#32
  let v492 : BitVec 1 := Scalar.cmpi .ne v491 c0_i32_281
  v492

def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_478 : BitVec 32 := 0#32
  let c0_i32_479 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_282 : BitVec 32 := 3#32
  let v493 : BitVec 1 := Scalar.cmpi .ne v2 c3_i32_282
  let v494 : BitVec 32 := Scalar.extui v493
  let c0_i32_283 : BitVec 32 := 0#32
  let v495 : BitVec 1 := Scalar.cmpi .ne v494 c0_i32_283
  v495

def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_284 : BitVec 32 := 4#32
  let v496 : BitVec 1 := Scalar.cmpi .ne v2 c4_i32_284
  let v497 : BitVec 32 := Scalar.extui v496
  let c0_i32_285 : BitVec 32 := 0#32
  let v498 : BitVec 1 := Scalar.cmpi .ne v497 c0_i32_285
  v498

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_286 : BitVec 32 := 5#32
  let v499 : BitVec 1 := Scalar.cmpi .ne v2 c5_i32_286
  let v500 : BitVec 32 := Scalar.extui v499
  let c0_i32_287 : BitVec 32 := 0#32
  let v501 : BitVec 1 := Scalar.cmpi .ne v500 c0_i32_287
  v501

def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_288 : BitVec 32 := 6#32
  let v502 : BitVec 1 := Scalar.cmpi .ne v2 c6_i32_288
  let v503 : BitVec 32 := Scalar.extui v502
  let c0_i32_289 : BitVec 32 := 0#32
  let v504 : BitVec 1 := Scalar.cmpi .ne v503 c0_i32_289
  v504

def k0_off137 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_290 : BitVec 32 := 7#32
  let v505 : BitVec 1 := Scalar.cmpi .ne v2 c7_i32_290
  let v506 : BitVec 32 := Scalar.extui v505
  let c0_i32_291 : BitVec 32 := 0#32
  let v507 : BitVec 1 := Scalar.cmpi .ne v506 c0_i32_291
  v507

def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_292 : BitVec 32 := 8#32
  let v508 : BitVec 1 := Scalar.cmpi .ne v2 c8_i32_292
  let v509 : BitVec 32 := Scalar.extui v508
  let c0_i32_293 : BitVec 32 := 0#32
  let v510 : BitVec 1 := Scalar.cmpi .ne v509 c0_i32_293
  v510

def k0_off139 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_294 : BitVec 32 := 9#32
  let v511 : BitVec 1 := Scalar.cmpi .ne v2 c9_i32_294
  let v512 : BitVec 32 := Scalar.extui v511
  let c0_i32_295 : BitVec 32 := 0#32
  let v513 : BitVec 1 := Scalar.cmpi .ne v512 c0_i32_295
  v513

def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_296 : BitVec 32 := 10#32
  let v514 : BitVec 1 := Scalar.cmpi .ne v2 c10_i32_296
  let v515 : BitVec 32 := Scalar.extui v514
  let c0_i32_297 : BitVec 32 := 0#32
  let v516 : BitVec 1 := Scalar.cmpi .ne v515 c0_i32_297
  v516

def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_298 : BitVec 32 := 11#32
  let v517 : BitVec 1 := Scalar.cmpi .ne v2 c11_i32_298
  let v518 : BitVec 32 := Scalar.extui v517
  let c0_i32_299 : BitVec 32 := 0#32
  let v519 : BitVec 1 := Scalar.cmpi .ne v518 c0_i32_299
  v519

def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_300 : BitVec 32 := 12#32
  let v520 : BitVec 1 := Scalar.cmpi .ne v2 c12_i32_300
  let v521 : BitVec 32 := Scalar.extui v520
  let c0_i32_301 : BitVec 32 := 0#32
  let v522 : BitVec 1 := Scalar.cmpi .ne v521 c0_i32_301
  v522

def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_302 : BitVec 32 := 13#32
  let v523 : BitVec 1 := Scalar.cmpi .ne v2 c13_i32_302
  let v524 : BitVec 32 := Scalar.extui v523
  let c0_i32_303 : BitVec 32 := 0#32
  let v525 : BitVec 1 := Scalar.cmpi .ne v524 c0_i32_303
  v525

def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_304 : BitVec 32 := 14#32
  let v526 : BitVec 1 := Scalar.cmpi .ne v2 c14_i32_304
  let v527 : BitVec 32 := Scalar.extui v526
  let c0_i32_305 : BitVec 32 := 0#32
  let v528 : BitVec 1 := Scalar.cmpi .ne v527 c0_i32_305
  v528

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_306 : BitVec 32 := 15#32
  let v529 : BitVec 1 := Scalar.cmpi .ne v2 c15_i32_306
  let v530 : BitVec 32 := Scalar.extui v529
  let c0_i32_307 : BitVec 32 := 0#32
  let v531 : BitVec 1 := Scalar.cmpi .ne v530 c0_i32_307
  v531

def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_308 : BitVec 32 := 16#32
  let v532 : BitVec 1 := Scalar.cmpi .ne v2 c16_i32_308
  let v533 : BitVec 32 := Scalar.extui v532
  let c0_i32_309 : BitVec 32 := 0#32
  let v534 : BitVec 1 := Scalar.cmpi .ne v533 c0_i32_309
  v534

def k0_off147 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_310 : BitVec 32 := 17#32
  let v535 : BitVec 1 := Scalar.cmpi .ne v2 c17_i32_310
  let v536 : BitVec 32 := Scalar.extui v535
  let c0_i32_311 : BitVec 32 := 0#32
  let v537 : BitVec 1 := Scalar.cmpi .ne v536 c0_i32_311
  v537

def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_312 : BitVec 32 := 18#32
  let v538 : BitVec 1 := Scalar.cmpi .ne v2 c18_i32_312
  let v539 : BitVec 32 := Scalar.extui v538
  let c0_i32_313 : BitVec 32 := 0#32
  let v540 : BitVec 1 := Scalar.cmpi .ne v539 c0_i32_313
  v540

def k0_off149 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_314 : BitVec 32 := 19#32
  let v541 : BitVec 1 := Scalar.cmpi .ne v2 c19_i32_314
  let v542 : BitVec 32 := Scalar.extui v541
  let c0_i32_315 : BitVec 32 := 0#32
  let v543 : BitVec 1 := Scalar.cmpi .ne v542 c0_i32_315
  v543

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_316 : BitVec 32 := 20#32
  let v544 : BitVec 1 := Scalar.cmpi .ne v2 c20_i32_316
  let v545 : BitVec 32 := Scalar.extui v544
  let c0_i32_317 : BitVec 32 := 0#32
  let v546 : BitVec 1 := Scalar.cmpi .ne v545 c0_i32_317
  v546

def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_318 : BitVec 32 := 21#32
  let v547 : BitVec 1 := Scalar.cmpi .ne v2 c21_i32_318
  let v548 : BitVec 32 := Scalar.extui v547
  let c0_i32_319 : BitVec 32 := 0#32
  let v549 : BitVec 1 := Scalar.cmpi .ne v548 c0_i32_319
  v549

def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_320 : BitVec 32 := 22#32
  let v550 : BitVec 1 := Scalar.cmpi .ne v2 c22_i32_320
  let v551 : BitVec 32 := Scalar.extui v550
  let c0_i32_321 : BitVec 32 := 0#32
  let v552 : BitVec 1 := Scalar.cmpi .ne v551 c0_i32_321
  v552

def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_322 : BitVec 32 := 23#32
  let v553 : BitVec 1 := Scalar.cmpi .ne v2 c23_i32_322
  let v554 : BitVec 32 := Scalar.extui v553
  let c0_i32_323 : BitVec 32 := 0#32
  let v555 : BitVec 1 := Scalar.cmpi .ne v554 c0_i32_323
  v555

def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_324 : BitVec 32 := 24#32
  let v556 : BitVec 1 := Scalar.cmpi .ne v2 c24_i32_324
  let v557 : BitVec 32 := Scalar.extui v556
  let c0_i32_325 : BitVec 32 := 0#32
  let v558 : BitVec 1 := Scalar.cmpi .ne v557 c0_i32_325
  v558

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_326 : BitVec 32 := 25#32
  let v559 : BitVec 1 := Scalar.cmpi .ne v2 c25_i32_326
  let v560 : BitVec 32 := Scalar.extui v559
  let c0_i32_327 : BitVec 32 := 0#32
  let v561 : BitVec 1 := Scalar.cmpi .ne v560 c0_i32_327
  v561

def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_328 : BitVec 32 := 26#32
  let v562 : BitVec 1 := Scalar.cmpi .ne v2 c26_i32_328
  let v563 : BitVec 32 := Scalar.extui v562
  let c0_i32_329 : BitVec 32 := 0#32
  let v564 : BitVec 1 := Scalar.cmpi .ne v563 c0_i32_329
  v564

def k0_off157 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_330 : BitVec 32 := 27#32
  let v565 : BitVec 1 := Scalar.cmpi .ne v2 c27_i32_330
  let v566 : BitVec 32 := Scalar.extui v565
  let c0_i32_331 : BitVec 32 := 0#32
  let v567 : BitVec 1 := Scalar.cmpi .ne v566 c0_i32_331
  v567

def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_332 : BitVec 32 := 28#32
  let v568 : BitVec 1 := Scalar.cmpi .ne v2 c28_i32_332
  let v569 : BitVec 32 := Scalar.extui v568
  let c0_i32_333 : BitVec 32 := 0#32
  let v570 : BitVec 1 := Scalar.cmpi .ne v569 c0_i32_333
  v570

def k0_off159 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_334 : BitVec 32 := 29#32
  let v571 : BitVec 1 := Scalar.cmpi .ne v2 c29_i32_334
  let v572 : BitVec 32 := Scalar.extui v571
  let c0_i32_335 : BitVec 32 := 0#32
  let v573 : BitVec 1 := Scalar.cmpi .ne v572 c0_i32_335
  v573

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_336 : BitVec 32 := 30#32
  let v574 : BitVec 1 := Scalar.cmpi .ne v2 c30_i32_336
  let v575 : BitVec 32 := Scalar.extui v574
  let c0_i32_337 : BitVec 32 := 0#32
  let v576 : BitVec 1 := Scalar.cmpi .ne v575 c0_i32_337
  v576

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_338 : BitVec 32 := 31#32
  let v577 : BitVec 1 := Scalar.cmpi .ne v2 c31_i32_338
  let v578 : BitVec 32 := Scalar.extui v577
  let c0_i32_339 : BitVec 32 := 0#32
  let v579 : BitVec 1 := Scalar.cmpi .ne v578 c0_i32_339
  v579

def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let c0_i32_478 : BitVec 32 := 0#32
  ![v2.toNat, 0, 0]
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_404 : BitVec 32 := 0#32
  let v676 : BitVec 1 := Scalar.cmpi .ne v2 c0_i32_404
  let v677 : BitVec 32 := Scalar.extui v676
  let c0_i32_405 : BitVec 32 := 0#32
  let v678 : BitVec 1 := Scalar.cmpi .ne v677 c0_i32_405
  v678

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_406 : BitVec 32 := 1#32
  let v679 : BitVec 1 := Scalar.cmpi .ne v2 c1_i32_406
  let v680 : BitVec 32 := Scalar.extui v679
  let c0_i32_407 : BitVec 32 := 0#32
  let v681 : BitVec 1 := Scalar.cmpi .ne v680 c0_i32_407
  v681

def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_408 : BitVec 32 := 2#32
  let v682 : BitVec 1 := Scalar.cmpi .ne v2 c2_i32_408
  let v683 : BitVec 32 := Scalar.extui v682
  let c0_i32_409 : BitVec 32 := 0#32
  let v684 : BitVec 1 := Scalar.cmpi .ne v683 c0_i32_409
  v684

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_410 : BitVec 32 := 3#32
  let v685 : BitVec 1 := Scalar.cmpi .ne v2 c3_i32_410
  let v686 : BitVec 32 := Scalar.extui v685
  let c0_i32_411 : BitVec 32 := 0#32
  let v687 : BitVec 1 := Scalar.cmpi .ne v686 c0_i32_411
  v687

def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_412 : BitVec 32 := 4#32
  let v688 : BitVec 1 := Scalar.cmpi .ne v2 c4_i32_412
  let v689 : BitVec 32 := Scalar.extui v688
  let c0_i32_413 : BitVec 32 := 0#32
  let v690 : BitVec 1 := Scalar.cmpi .ne v689 c0_i32_413
  v690

def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_414 : BitVec 32 := 5#32
  let v691 : BitVec 1 := Scalar.cmpi .ne v2 c5_i32_414
  let v692 : BitVec 32 := Scalar.extui v691
  let c0_i32_415 : BitVec 32 := 0#32
  let v693 : BitVec 1 := Scalar.cmpi .ne v692 c0_i32_415
  v693

def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_416 : BitVec 32 := 6#32
  let v694 : BitVec 1 := Scalar.cmpi .ne v2 c6_i32_416
  let v695 : BitVec 32 := Scalar.extui v694
  let c0_i32_417 : BitVec 32 := 0#32
  let v696 : BitVec 1 := Scalar.cmpi .ne v695 c0_i32_417
  v696

def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_418 : BitVec 32 := 7#32
  let v697 : BitVec 1 := Scalar.cmpi .ne v2 c7_i32_418
  let v698 : BitVec 32 := Scalar.extui v697
  let c0_i32_419 : BitVec 32 := 0#32
  let v699 : BitVec 1 := Scalar.cmpi .ne v698 c0_i32_419
  v699

def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_420 : BitVec 32 := 8#32
  let v700 : BitVec 1 := Scalar.cmpi .ne v2 c8_i32_420
  let v701 : BitVec 32 := Scalar.extui v700
  let c0_i32_421 : BitVec 32 := 0#32
  let v702 : BitVec 1 := Scalar.cmpi .ne v701 c0_i32_421
  v702

def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_422 : BitVec 32 := 9#32
  let v703 : BitVec 1 := Scalar.cmpi .ne v2 c9_i32_422
  let v704 : BitVec 32 := Scalar.extui v703
  let c0_i32_423 : BitVec 32 := 0#32
  let v705 : BitVec 1 := Scalar.cmpi .ne v704 c0_i32_423
  v705

def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_424 : BitVec 32 := 10#32
  let v706 : BitVec 1 := Scalar.cmpi .ne v2 c10_i32_424
  let v707 : BitVec 32 := Scalar.extui v706
  let c0_i32_425 : BitVec 32 := 0#32
  let v708 : BitVec 1 := Scalar.cmpi .ne v707 c0_i32_425
  v708

def k0_off173 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_426 : BitVec 32 := 11#32
  let v709 : BitVec 1 := Scalar.cmpi .ne v2 c11_i32_426
  let v710 : BitVec 32 := Scalar.extui v709
  let c0_i32_427 : BitVec 32 := 0#32
  let v711 : BitVec 1 := Scalar.cmpi .ne v710 c0_i32_427
  v711

def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_428 : BitVec 32 := 12#32
  let v712 : BitVec 1 := Scalar.cmpi .ne v2 c12_i32_428
  let v713 : BitVec 32 := Scalar.extui v712
  let c0_i32_429 : BitVec 32 := 0#32
  let v714 : BitVec 1 := Scalar.cmpi .ne v713 c0_i32_429
  v714

def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_430 : BitVec 32 := 13#32
  let v715 : BitVec 1 := Scalar.cmpi .ne v2 c13_i32_430
  let v716 : BitVec 32 := Scalar.extui v715
  let c0_i32_431 : BitVec 32 := 0#32
  let v717 : BitVec 1 := Scalar.cmpi .ne v716 c0_i32_431
  v717

def k0_off176 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_432 : BitVec 32 := 14#32
  let v718 : BitVec 1 := Scalar.cmpi .ne v2 c14_i32_432
  let v719 : BitVec 32 := Scalar.extui v718
  let c0_i32_433 : BitVec 32 := 0#32
  let v720 : BitVec 1 := Scalar.cmpi .ne v719 c0_i32_433
  v720

def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_434 : BitVec 32 := 15#32
  let v721 : BitVec 1 := Scalar.cmpi .ne v2 c15_i32_434
  let v722 : BitVec 32 := Scalar.extui v721
  let c0_i32_435 : BitVec 32 := 0#32
  let v723 : BitVec 1 := Scalar.cmpi .ne v722 c0_i32_435
  v723

def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_436 : BitVec 32 := 16#32
  let v724 : BitVec 1 := Scalar.cmpi .ne v2 c16_i32_436
  let v725 : BitVec 32 := Scalar.extui v724
  let c0_i32_437 : BitVec 32 := 0#32
  let v726 : BitVec 1 := Scalar.cmpi .ne v725 c0_i32_437
  v726

def k0_off179 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_438 : BitVec 32 := 17#32
  let v727 : BitVec 1 := Scalar.cmpi .ne v2 c17_i32_438
  let v728 : BitVec 32 := Scalar.extui v727
  let c0_i32_439 : BitVec 32 := 0#32
  let v729 : BitVec 1 := Scalar.cmpi .ne v728 c0_i32_439
  v729

def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_440 : BitVec 32 := 18#32
  let v730 : BitVec 1 := Scalar.cmpi .ne v2 c18_i32_440
  let v731 : BitVec 32 := Scalar.extui v730
  let c0_i32_441 : BitVec 32 := 0#32
  let v732 : BitVec 1 := Scalar.cmpi .ne v731 c0_i32_441
  v732

def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_442 : BitVec 32 := 19#32
  let v733 : BitVec 1 := Scalar.cmpi .ne v2 c19_i32_442
  let v734 : BitVec 32 := Scalar.extui v733
  let c0_i32_443 : BitVec 32 := 0#32
  let v735 : BitVec 1 := Scalar.cmpi .ne v734 c0_i32_443
  v735

def k0_off182 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_444 : BitVec 32 := 20#32
  let v736 : BitVec 1 := Scalar.cmpi .ne v2 c20_i32_444
  let v737 : BitVec 32 := Scalar.extui v736
  let c0_i32_445 : BitVec 32 := 0#32
  let v738 : BitVec 1 := Scalar.cmpi .ne v737 c0_i32_445
  v738

def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_446 : BitVec 32 := 21#32
  let v739 : BitVec 1 := Scalar.cmpi .ne v2 c21_i32_446
  let v740 : BitVec 32 := Scalar.extui v739
  let c0_i32_447 : BitVec 32 := 0#32
  let v741 : BitVec 1 := Scalar.cmpi .ne v740 c0_i32_447
  v741

def k0_off184 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_448 : BitVec 32 := 22#32
  let v742 : BitVec 1 := Scalar.cmpi .ne v2 c22_i32_448
  let v743 : BitVec 32 := Scalar.extui v742
  let c0_i32_449 : BitVec 32 := 0#32
  let v744 : BitVec 1 := Scalar.cmpi .ne v743 c0_i32_449
  v744

def k0_off185 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_450 : BitVec 32 := 23#32
  let v745 : BitVec 1 := Scalar.cmpi .ne v2 c23_i32_450
  let v746 : BitVec 32 := Scalar.extui v745
  let c0_i32_451 : BitVec 32 := 0#32
  let v747 : BitVec 1 := Scalar.cmpi .ne v746 c0_i32_451
  v747

def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_452 : BitVec 32 := 24#32
  let v748 : BitVec 1 := Scalar.cmpi .ne v2 c24_i32_452
  let v749 : BitVec 32 := Scalar.extui v748
  let c0_i32_453 : BitVec 32 := 0#32
  let v750 : BitVec 1 := Scalar.cmpi .ne v749 c0_i32_453
  v750

def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_454 : BitVec 32 := 25#32
  let v751 : BitVec 1 := Scalar.cmpi .ne v2 c25_i32_454
  let v752 : BitVec 32 := Scalar.extui v751
  let c0_i32_455 : BitVec 32 := 0#32
  let v753 : BitVec 1 := Scalar.cmpi .ne v752 c0_i32_455
  v753

def k0_off188 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_456 : BitVec 32 := 26#32
  let v754 : BitVec 1 := Scalar.cmpi .ne v2 c26_i32_456
  let v755 : BitVec 32 := Scalar.extui v754
  let c0_i32_457 : BitVec 32 := 0#32
  let v756 : BitVec 1 := Scalar.cmpi .ne v755 c0_i32_457
  v756

def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_458 : BitVec 32 := 27#32
  let v757 : BitVec 1 := Scalar.cmpi .ne v2 c27_i32_458
  let v758 : BitVec 32 := Scalar.extui v757
  let c0_i32_459 : BitVec 32 := 0#32
  let v759 : BitVec 1 := Scalar.cmpi .ne v758 c0_i32_459
  v759

def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_460 : BitVec 32 := 28#32
  let v760 : BitVec 1 := Scalar.cmpi .ne v2 c28_i32_460
  let v761 : BitVec 32 := Scalar.extui v760
  let c0_i32_461 : BitVec 32 := 0#32
  let v762 : BitVec 1 := Scalar.cmpi .ne v761 c0_i32_461
  v762

def k0_off191 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_462 : BitVec 32 := 29#32
  let v763 : BitVec 1 := Scalar.cmpi .ne v2 c29_i32_462
  let v764 : BitVec 32 := Scalar.extui v763
  let c0_i32_463 : BitVec 32 := 0#32
  let v765 : BitVec 1 := Scalar.cmpi .ne v764 c0_i32_463
  v765

def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_464 : BitVec 32 := 30#32
  let v766 : BitVec 1 := Scalar.cmpi .ne v2 c30_i32_464
  let v767 : BitVec 32 := Scalar.extui v766
  let c0_i32_465 : BitVec 32 := 0#32
  let v768 : BitVec 1 := Scalar.cmpi .ne v767 c0_i32_465
  v768

def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_466 : BitVec 32 := 31#32
  let v769 : BitVec 1 := Scalar.cmpi .ne v2 c31_i32_466
  let v770 : BitVec 32 := Scalar.extui v769
  let c0_i32_467 : BitVec 32 := 0#32
  let v771 : BitVec 1 := Scalar.cmpi .ne v770 c0_i32_467
  v771

def k0_off194 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_476 : BitVec 32 := 0#32
  let c0_i32_477 : BitVec 32 := 0#32
  ![v2.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S256x512 : Shape := ⟨2, ![256, 512]⟩
abbrev S512x128 : Shape := ⟨2, ![512, 128]⟩
abbrev S_ : Shape := ⟨0, ![]⟩
abbrev S512 : Shape := ⟨1, ![512]⟩
abbrev S512x512 : Shape := ⟨2, ![512, 512]⟩
abbrev S512x128x512 : Shape := ⟨3, ![512, 128, 512]⟩
abbrev S512x128x1 : Shape := ⟨3, ![512, 128, 1]⟩

abbrev nBuf : Space → Nat
  | .hbm => 44
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x1, .i32⟩
  | .hbm, ⟨3, _⟩ => ⟨S128x256x512, .bf16⟩
  | .hbm, ⟨4, _⟩ => ⟨S256x512, .bf16⟩
  | .hbm, ⟨5, _⟩ => ⟨S512x256, .f32⟩
  | .hbm, ⟨6, _⟩ => ⟨S256x128, .f32⟩
  | .hbm, ⟨7, _⟩ => ⟨S512x128, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x128, .f32⟩
  | .hbm, ⟨18, _⟩ => ⟨S512x128, .f32⟩
  | .hbm, ⟨19, _⟩ => ⟨S256x512, .f32⟩
  | .hbm, ⟨20, _⟩ => ⟨S512x512, .f32⟩
  | .hbm, ⟨21, _⟩ => ⟨S512x128, .i32⟩
  | .hbm, ⟨22, _⟩ => ⟨S512x128, .i32⟩
  | .hbm, ⟨23, _⟩ => ⟨S512x128, .i1⟩
  | .hbm, ⟨24, _⟩ => ⟨S_, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512, .f32⟩
  | .hbm, ⟨30, _⟩ => ⟨S512x1, .f32⟩
  | .hbm, ⟨31, _⟩ => ⟨S128x256x512, .f32⟩
  | .hbm, ⟨32, _⟩ => ⟨S512x128x512, .f32⟩
  | .hbm, ⟨33, _⟩ => ⟨S512x128x1, .i1⟩
  | .hbm, ⟨34, _⟩ => ⟨S_, .f32⟩
  | .hbm, ⟨35, _⟩ => ⟨S_, .f32⟩
  | .hbm, ⟨36, _⟩ => ⟨S512x128x512, .i1⟩
  | .hbm, ⟨37, _⟩ => ⟨S512x128x512, .f32⟩
  | .hbm, ⟨38, _⟩ => ⟨S512x128x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Sched.lean ====
/-
# The schedule of the mixture-of-experts all-reduce

Thirty-two devices. Every device signals the barrier semaphore of every other device and waits for its own thirty-one
signals; then it sends chunk `c` of its partial result to device `c` (the reduce-scatter), adds the thirty-two chunks it
was sent, and sends the sum to every other device (the all-gather).

A duty is named by a device. On the barrier cell of `c`, device `d ≠ c` owes one unit and hands over slot `c` of its own
two landing buffers. On slot `j` of a transfer array the one duty is `j`, worth one slot's credit; its payload is what the
transfer moved (a receive cell) or what it read (a send cell). Slot `d` of device `d`'s own arrays is never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdx
public import Idealize.ShloMosaic.Lib.Transfers

@[expose] public section

set_option maxRecDepth 16384

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Buffers, slots, cells -/

abbrev xM : Memref sig .tc .vmem S512x256 .bf16 := Memref.whole cc0_stg0_0
abbrev rwM : Memref sig .tc .vmem S256x128 .bf16 := Memref.whole cc0_stg1_0
abbrev riM : Memref sig .tc .vmem S512x1 .i32 := Memref.whole cc0_stg2_0
abbrev ewM : Memref sig .tc .vmem S4x256x512 .bf16 := Memref.whole cc0_stg3_0
abbrev swM : Memref sig .tc .vmem S256x512 .bf16 := Memref.whole cc0_stg4_0
abbrev oM : Memref sig .tc .vmem S512x512 .f32 := Memref.whole cc0_stg5_0
abbrev accM : Memref sig .tc .vmem S512x512 .bf16 := Memref.whole cc0_scratch0
abbrev rsM : Memref sig .tc .vmem S32x16x512 .bf16 := Memref.whole cc0_scratch1
abbrev agM : Memref sig .tc .vmem S32x16x512 .bf16 := Memref.whole cc0_scratch2

theorem chunk_inb (j : Dev nD) : ∀ a, (![16 * j.val, 0] : Fin 2 → Nat) a + S16x512.size a ≤ S512x512.size a := by
  revert j; decide +kernel
theorem slot_inb (j : Dev nD) : ∀ a, (![j.val, 0, 0] : Fin 3 → Nat) a + S1x16x512.size a ≤ S32x16x512.size a := by
  revert j; decide +kernel
theorem sem_inb (j : Dev nD) : ∀ a, (![j.val] : Fin 1 → Nat) a + S1.size a ≤ S32.size a := by
  revert j; decide +kernel

/-- Rows `16 j … 16 j + 15` of the partial result. -/
abbrev chunkR (j : Dev nD) : Rect S512x512 := Rect.unit (s := S512x512) ![16 * j.val, 0] S16x512.size (chunk_inb j)
/-- Slot `j` of a landing buffer. -/
abbrev slotR (j : Dev nD) : Rect S32x16x512 := Rect.unit (s := S32x16x512) ![j.val, 0, 0] S1x16x512.size (slot_inb j)

abbrev accC (j : Dev nD) : Memref sig .tc .vmem S16x512 .bf16 := accM.slice (chunkR j) (fun _ => rfl)
abbrev rsS (j : Dev nD) : Memref sig .tc .vmem S16x512 .bf16 := (rsM.slice (slotR j) (fun _ => rfl)).squeeze S16x512 squeezes_S1x16x512_S16x512
abbrev agS (j : Dev nD) : Memref sig .tc .vmem S16x512 .bf16 := (agM.slice (slotR j) (fun _ => rfl)).squeeze S16x512 squeezes_S1x16x512_S16x512

/-- Entry `j` of an array of transfer semaphores. -/
abbrev semAt (A : DmaSems sig S32) (j : Dev nD) : DmaSem sig :=
  ((A.slice (Rect.unit (s := S32) ![j.val] S1.size (sem_inb j))).squeeze S_ squeezes_S1_S_).sem

/-- The four arrays of transfer semaphores: reduce-scatter send and receive, all-gather send and receive. -/
abbrev arr : Fin 4 → DmaSems sig S32 := fun | 0 => cc0_scratch3 | 1 => cc0_scratch4 | 2 => cc0_scratch5 | 3 => cc0_scratch6

set_option backward.proofsInPublic true in
/-- The semaphore at slot `j` of array `k`, by its number: the six staging semaphores come first. -/
def dsem (k : Fin 4) (j : Dev nD) : DmaSem sig := ⟨6 + 32 * k.val + j.val, by
  have hk := k.isLt; have hj : j.val < 32 := j.isLt; show _ < 134; omega⟩

theorem semAt_eq : ∀ (k : Fin 4) (j : Dev nD), semAt (arr k) j = dsem k j := by decide +kernel

/-- The barrier semaphore of the collective. -/
abbrev barS : Sem sig := (SemArray.scalar (sig.barrier 0 rfl) : Sems sig S_).sem

abbrev barCell (c : Dev nD) : GSem nD τ sig := ((c : Thread nD τ), .reg barS)
abbrev xCell (k : Fin 4) (c j : Dev nD) : GSem nD τ sig := ((c : Thread nD τ), .dma (dsem k j))

set_option backward.proofsInPublic true in
/-- Which slot of which array a transfer semaphore is; a staging semaphore is none. -/
def slotOf (q : DmaSem sig) : Option (Fin 4 × Dev nD) :=
  if h : 6 ≤ q.val then some (⟨(q.val - 6) / 32, by have : q.val < 134 := q.isLt; omega⟩, ⟨(q.val - 6) % 32, Nat.mod_lt _ (by decide)⟩) else none

theorem slotOf_dsem (k : Fin 4) (j : Dev nD) : slotOf (dsem k j) = some (k, j) := by
  have hj : j.val < 32 := j.isLt
  have hv : (dsem k j).val = 6 + 32 * k.val + j.val := rfl
  unfold slotOf
  rw [dif_pos (by rw [hv]; omega)]
  congr 1
  refine Prod.ext (Fin.ext ?_) (Fin.ext ?_)
  · show ((dsem k j).val - 6) / 32 = k.val; rw [hv]; omega
  · show ((dsem k j).val - 6) % 32 = j.val; rw [hv]; omega

theorem dsem_inj {k k' : Fin 4} {j j' : Dev nD} (h : dsem k j = dsem k' j') : k = k' ∧ j = j' := by
  have := congrArg slotOf h
  rw [slotOf_dsem, slotOf_dsem] at this
  exact Prod.ext_iff.mp (Option.some.inj this)

/-- The credit of one slot. -/
def N : ℕ := (rsS 0).view.dmaCredit
theorem N_pos : 0 < N := View.dmaCredit_pos _ (by decide)
theorem N_acc (j : Dev nD) : (accC j).view.dmaCredit = N := rfl
theorem N_rs (j : Dev nD) : (rsS j).view.dmaCredit = N := rfl
theorem N_ag (j : Dev nD) : (agS j).view.dmaCredit = N := rfl

/-! ## Contents -/

variable (d : Dev nD)

/-- What the pipeline stages of the five arguments on device `d`. -/
def xst : (cc0_stg0_0 : Ref sig .tc).ty.Contents (Elt F) := (win0_0.blk (0 : Fin 1)).view.read (Elt F) (m ((d : Thread nD τ).loc main_arg0))
def rwst : (cc0_stg1_0 : Ref sig .tc).ty.Contents (Elt F) := (win0_1.blk (0 : Fin 1)).view.read (Elt F) (m ((d : Thread nD τ).loc main_arg1))
def rist : (cc0_stg2_0 : Ref sig .tc).ty.Contents (Elt F) := (win0_2.blk (0 : Fin 1)).view.read (Elt F) (m ((d : Thread nD τ).loc main_arg2))
def ewst : (cc0_stg3_0 : Ref sig .tc).ty.Contents (Elt F) := (win0_3.blk (0 : Fin 1)).view.read (Elt F) (m ((d : Thread nD τ).loc main_arg3))
def swst : (cc0_stg4_0 : Ref sig .tc).ty.Contents (Elt F) := (win0_4.blk (0 : Fin 1)).view.read (Elt F) (m ((d : Thread nD τ).loc main_arg4))

/-- Device `d`'s number as the kernel reckons it. -/
abbrev posW : BitVec 32 := Scalar.remsi (Scalar.divsi (Dev.word d) 1#32) 32#32

/-- Expert `e`'s weights on device `d`. -/
def ewRow0 : Vec F S1x256x512 .bf16 := (ewM).view.readAt (Elt F) (Rect.unit (s := S4x256x512) ![0, 0, 0] S1x256x512.size inb_S4x256x512_S1x256x512_0_0_0).toLoadRect (ewst m d)
def ewRow1 : Vec F S1x256x512 .bf16 := (ewM).view.readAt (Elt F) (Rect.unit (s := S4x256x512) ![1, 0, 0] S1x256x512.size inb_S4x256x512_S1x256x512_1_0_0).toLoadRect (ewst m d)
def ewRow2 : Vec F S1x256x512 .bf16 := (ewM).view.readAt (Elt F) (Rect.unit (s := S4x256x512) ![2, 0, 0] S1x256x512.size inb_S4x256x512_S1x256x512_2_0_0).toLoadRect (ewst m d)
def ewRow3 : Vec F S1x256x512 .bf16 := (ewM).view.readAt (Elt F) (Rect.unit (s := S4x256x512) ![3, 0, 0] S1x256x512.size inb_S4x256x512_S1x256x512_3_0_0).toLoadRect (ewst m d)

/-- Device `d`'s partial result: its four experts' share. -/
def acc : (cc0_scratch0 : Ref sig .tc).ty.Contents (Elt F) :=
  k0_pay8 (k0_pay2 (xst m d)) (k0_pay3 (F := F) (rist m d)) (k0_pay4 (xst m d) (rwst m d) (rist m d))
    (k0_pay6 (posW d) (k0_pay2 (xst m d)) (k0_pay3 (F := F) (rist m d)) (k0_pay4 (xst m d) (rwst m d) (rist m d)) (k0_pay5 (F := F)) (Scalar.muli (posW d) 4#32)
      (ewRow0 m d) (ewRow1 m d) (ewRow2 m d))
    (k0_pay7 (posW d)) (ewRow3 m d)

/-- The row of the partial result a slot's row is. -/
def rowOf (d : Dev nD) (r : Fin 16) : Fin 512 := ⟨16 * d.val + r.val, by have h : d.val < 32 := d.isLt; have := r.isLt; omega⟩

/-- Device `d`'s landing buffer after the reduce-scatter: chunk `d` of every device's partial result. -/
def rsAll : (cc0_scratch1 : Ref sig .tc).ty.Contents (Elt F) := fun i => acc m (i 0) (ix2 (rowOf d (i 1)) (i 2))

/-- Device `d`'s reduced chunk. -/
def red : FVec F S1x16x512 .bf16 := k0_pay11 (rsAll m d)

/-- Every device's landing buffer after the all-gather. -/
def agAll : (cc0_scratch2 : Ref sig .tc).ty.Contents (Elt F) := fun i => red m (i 0) (ix3 0 (i 1) (i 2))

/-- The kernel's result on device `d`. -/
def out : (cc0_stg5_0 : Ref sig .tc).ty.Contents (Elt F) := k0_pay1 (k0_pay9 (k0_pay2 (xst m d)) (swst m d)) (agAll m)

/-! ## Points-to facts of the slots -/

def accPts (d j : Dev nD) (f : (cc0_scratch0 : Ref sig .tc).ty.Contents (Elt F)) : sProp 𝕄 :=
  (accC j).view.loc (d : Thread nD τ) ↦[(accC j).view.set]{fullShare} f
def rsPts (d j : Dev nD) (f : (cc0_scratch1 : Ref sig .tc).ty.Contents (Elt F)) : sProp 𝕄 :=
  (rsS j).view.loc (d : Thread nD τ) ↦[(rsS j).view.set]{fullShare} f
def agPts (d j : Dev nD) (f : (cc0_scratch2 : Ref sig .tc).ty.Contents (Elt F)) : sProp 𝕄 :=
  (agS j).view.loc (d : Thread nD τ) ↦[(agS j).view.set]{fullShare} f
/-- The share of device `d`'s reduced chunk its transfer to `c` reads under. -/
def agShare (d c : Dev nD) (f : (cc0_scratch2 : Ref sig .tc).ty.Contents (Elt F)) : sProp 𝕄 :=
  (agS d).view.loc (d : Thread nD τ) ↦[(agS d).view.set]{Transfers.dealOf fullShare (Finset.univ.erase d) c} f

omit [FloatOps F] in
instance accPts_storable (d j : Dev nD) (f) : BI.Storable (upEmb : UEmb _ 𝕄) (accPts (F := F) d j f) := by unfold accPts; infer_instance
omit [FloatOps F] in
instance rsPts_storable (d j : Dev nD) (f) : BI.Storable (upEmb : UEmb _ 𝕄) (rsPts (F := F) d j f) := by unfold rsPts; infer_instance
omit [FloatOps F] in
instance agPts_storable (d j : Dev nD) (f) : BI.Storable (upEmb : UEmb _ 𝕄) (agPts (F := F) d j f) := by unfold agPts; infer_instance
omit [FloatOps F] in
instance agShare_storable (d c : Dev nD) (f) : BI.Storable (upEmb : UEmb _ 𝕄) (agShare (F := F) d c f) := by unfold agShare; infer_instance

/-! ## The schedule -/

/-- What device `d`'s signal hands `c`: slot `c` of `d`'s two landing buffers. -/
def barPay (c d : Dev nD) : sProp 𝕄 := iprop((∃ f, rsPts (F := F) d c f) ∗ (∃ f, agPts (F := F) d c f))

/-- What the transfer of slot `j` of array `k` on device `c` hands that device. -/
def xPay (k : Fin 4) (c j : Dev nD) : sProp 𝕄 :=
  match k with
  | 0 => accPts c j (acc m c)
  | 1 => rsPts c j (rsAll m c)
  | 2 => agShare c j (agAll m)
  | 3 => agPts c j (agAll m)

instance barPay_storable (c d : Dev nD) : BI.Storable (upEmb : UEmb _ 𝕄) (barPay (F := F) c d) := by unfold barPay; infer_instance
instance xPay_storable (k : Fin 4) (c j : Dev nD) : BI.Storable (upEmb : UEmb _ 𝕄) (xPay m k c j) := by
  unfold xPay; fin_cases k <;> (dsimp only; infer_instance)

def rd : Rounds.Schedule (GSem nD τ sig) (Dev nD) 𝕄 where
  duties g r := if r = 0 ∧ g.1.2 = .tc then
      (match g.2 with
      | .reg s => if s = barS then Finset.univ.erase g.1.1 else ∅
      | .dma q => match slotOf q with
        | some (k, j) => if j = g.1.1 then ∅ else {j}
        | none => ∅)
    else ∅
  unitless _ := False
  amount g _ _ := match g.2 with | .reg _ => 1 | .dma _ => N
  payload g _ d := match g.2 with
    | .reg _ => barPay g.1.1 d
    | .dma q => match slotOf q with
      | some (k, j) => xPay m k g.1.1 j
      | none => iprop(emp)
  amount_pos g _ _ _ := by
    cases g.2
    · exact Nat.one_pos
    · exact N_pos

instance rd_payload_storable (g : GSem nD τ sig) (r : ℕ) (d : Dev nD) :
    BI.Storable (upEmb : UEmb _ 𝕄) ((rd m).payload g r d) := by
  dsimp only [rd]
  cases g.2 with
  | reg s => dsimp only; infer_instance
  | dma q => dsimp only; cases slotOf q <;> (dsimp only; infer_instance)

section Sched
variable (c j : Dev nD) (k : Fin 4)

theorem duties_bar : (rd m).duties (barCell c) 0 = Finset.univ.erase c := by
  dsimp only [rd]; rw [if_pos ⟨rfl, rfl⟩, if_pos rfl]
theorem duties_x (h : j ≠ c) : (rd m).duties (xCell k c j) 0 = {j} := by
  dsimp only [rd]; rw [if_pos ⟨rfl, rfl⟩, slotOf_dsem]; exact if_neg h
theorem duties_own : (rd m).duties (xCell k c c) 0 = ∅ := by
  dsimp only [rd]; rw [if_pos ⟨rfl, rfl⟩, slotOf_dsem]; exact if_pos rfl
theorem duties_later (g : GSem nD τ sig) : ∀ r, 1 ≤ r → (rd m).duties g r = ∅ :=
  fun r hr => by dsimp only [rd]; rw [if_neg fun h => by omega]
theorem duties_own' : ∀ r, 0 ≤ r → (rd m).duties (xCell k c c) r = ∅ := fun r _ => by
  rcases Nat.eq_zero_or_pos r with rfl | h
  · exact duties_own m c k
  · exact duties_later m _ r h

theorem amount_bar (e : Dev nD) : (rd m).amount (barCell c) 0 e = 1 := rfl
theorem amount_x (e : Dev nD) : (rd m).amount (xCell k c j) 0 e = N := rfl

theorem expect_bar : (rd m).expect (barCell c) 0 = 31 := by
  unfold Schedule.expect Schedule.amountOf
  rw [duties_bar, Finset.sum_congr rfl fun e _ => amount_bar m c e, Finset.sum_const, Finset.card_erase_of_mem (Finset.mem_univ _)]
  rfl
theorem expect_x (h : j ≠ c) : (rd m).expect (xCell k c j) 0 = N := by
  unfold Schedule.expect Schedule.amountOf; rw [duties_x m c j k h, Finset.sum_singleton]; rfl

theorem payload_bar (e : Dev nD) : (rd m).payload (barCell c) 0 e = barPay c e := rfl
theorem payload_x (e : Dev nD) : (rd m).payload (xCell k c j) 0 e = xPay m k c j := by
  dsimp only [rd]; rw [slotOf_dsem]

theorem rest_bar : bigSep ((rd m).duties (barCell c) 0 \ ∅) (fun e => (rd m).payload (barCell c) 0 e)
    = bigSep (Finset.univ.erase c) (fun e => barPay (F := F) c e) := by
  rw [Finset.sdiff_empty, duties_bar]; rfl
theorem rest_x (h : j ≠ c) : bigSep ((rd m).duties (xCell k c j) 0 \ ∅) (fun e => (rd m).payload (xCell k c j) 0 e) = xPay m k c j := by
  rw [Finset.sdiff_empty, duties_x m c j k h, bigSep_singleton, payload_x]

end Sched

/-! ## The cells, their invariants -/

/-- A device's cells: its barrier, and its slots of the four arrays. -/
abbrev CI : Type := Option (Fin 4 × Dev nD)
abbrev kcell (p : Dev nD × CI) : GSem nD τ sig := match p.2 with
  | none => barCell p.1
  | some (k, j) => xCell k p.1 j

def records (K : Dev nD × CI → ℕ) : sProp 𝕄 :=
  bigSep Finset.univ (fun p : Dev nD × CI => iprop(cellInv ER (rd m) (K p) (kcell p) ∗ reached ER (kcell p) 0))

instance records_persistent (K : Dev nD × CI → ℕ) : BI.Persistent (records m K) := by unfold records; infer_instance

theorem records_at (K : Dev nD × CI → ℕ) (p : Dev nD × CI) :
    records m K ⊢ iprop(cellInv ER (rd m) (K p) (kcell p) ∗ reached ER (kcell p) 0) := bigSep_elim (Finset.mem_univ p)

/-! ## The devices before and after a point of the sweep -/

/-- The devices other than `d` from `i` on. -/
def rem (i : ℕ) : Finset (Dev nD) := Finset.univ.filter (fun c => i ≤ c.val ∧ c ≠ d)
/-- The devices other than `d` before `i`. -/
def fin (i : ℕ) : Finset (Dev nD) := Finset.univ.filter (fun c => c.val < i ∧ c ≠ d)

theorem mem_rem {i : ℕ} {c : Dev nD} : c ∈ rem d i ↔ i ≤ c.val ∧ c ≠ d := by simp [rem]
theorem mem_fin {i : ℕ} {c : Dev nD} : c ∈ fin d i ↔ c.val < i ∧ c ≠ d := by simp [fin]

theorem rem_zero : rem d 0 = Finset.univ.erase d := by ext c; simp [mem_rem]
theorem fin_last : fin d 32 = Finset.univ.erase d := by ext c; simp [mem_fin]
theorem fin_zero : fin d 0 = ∅ := by ext c; simp [mem_fin]
theorem rem_last : rem d 32 = ∅ := by ext c; simp [mem_rem]

theorem rem_skip {n : ℕ} (h : d.val = n) : rem d n = rem d (n + 1) := by
  ext c; rw [mem_rem, mem_rem]
  constructor
  · rintro ⟨h1, h2⟩; exact ⟨by have : c.val ≠ d.val := fun e => h2 (Fin.ext e); omega, h2⟩
  · rintro ⟨h1, h2⟩; exact ⟨by omega, h2⟩
theorem fin_skip {n : ℕ} (h : d.val = n) : fin d (n + 1) = fin d n := by
  ext c; rw [mem_fin, mem_fin]
  constructor
  · rintro ⟨h1, h2⟩; exact ⟨by have : c.val ≠ d.val := fun e => h2 (Fin.ext e); omega, h2⟩
  · rintro ⟨h1, h2⟩; exact ⟨by omega, h2⟩
theorem rem_step {n : ℕ} (hn : n < 32) (h : d.val ≠ n) : rem d n = insert ⟨n, hn⟩ (rem d (n + 1)) := by
  ext c; rw [Finset.mem_insert, mem_rem, mem_rem]
  constructor
  · rintro ⟨h1, h2⟩
    rcases Nat.eq_or_lt_of_le h1 with e | l
    · exact .inl (Fin.ext e.symm)
    · exact .inr ⟨l, h2⟩
  · rintro (rfl | ⟨h1, h2⟩)
    · exact ⟨Nat.le_refl _, fun e => h (by rw [← e])⟩
    · exact ⟨by omega, h2⟩
theorem fin_step {n : ℕ} (hn : n < 32) (h : d.val ≠ n) : fin d (n + 1) = insert ⟨n, hn⟩ (fin d n) := by
  ext c; rw [Finset.mem_insert, mem_fin, mem_fin]
  constructor
  · rintro ⟨h1, h2⟩
    rcases Nat.eq_or_lt_of_le (Nat.lt_succ_iff.mp h1) with e | l
    · exact .inl (Fin.ext e)
    · exact .inr ⟨l, h2⟩
  · rintro (rfl | ⟨h1, h2⟩)
    · exact ⟨Nat.lt_succ_self _, fun e => h (by rw [← e])⟩
    · exact ⟨by omega, h2⟩
theorem not_mem_rem (n : ℕ) (hn : n < 32) : (⟨n, hn⟩ : Dev nD) ∉ rem d (n + 1) := fun h => by
  have := (mem_rem d).mp h; exact absurd this.1 (by simp)
theorem not_mem_fin (n : ℕ) (hn : n < 32) : (⟨n, hn⟩ : Dev nD) ∉ fin d n := fun h => by
  have := (mem_fin d).mp h; exact absurd this.1 (by simp)

/-! ## What a device owes; the levels -/

/-- One tally per device of a set. -/
def tallies (S : Finset (Dev nD)) (g : Dev nD → GSem nD τ sig) (n : ℕ) : CellTallies nD τ sig Unit := ∑ c ∈ S, tallyAt (g c) () n

theorem tallies_insert {S : Finset (Dev nD)} {c : Dev nD} (h : c ∉ S) (g : Dev nD → GSem nD τ sig) (n : ℕ) :
    tallies (insert c S) g n = tallies S g n + tallyAt (g c) () n := by
  unfold tallies; rw [Finset.sum_insert h, add_comm]
theorem tallies_empty (g : Dev nD → GSem nD τ sig) (n : ℕ) : tallies ∅ g n = 0 := by unfold tallies; rw [Finset.sum_empty]

theorem tallies_pos {S : Finset (Dev nD)} {f : Dev nD → GSem nD τ sig} {n : ℕ} {g : GSem nD τ sig} {u : Unit}
    (h : 0 < tallies S f n g u) : ∃ c ∈ S, g = f c := by
  by_contra hn
  push Not at hn
  have : tallies S f n g u = 0 := by
    unfold tallies
    rw [Finset.sum_apply, Finsupp.finsetSum_apply]
    exact Finset.sum_eq_zero fun c hc => by rw [tallyAt_apply, if_neg (fun h' => hn c hc h'.1)]
  rw [this] at h; exact Nat.lt_irrefl 0 h

/-- The credit owed to slot `d` of every device's all-gather receive array. -/
def OA (S : Finset (Dev nD)) : CellTallies nD τ sig Unit := tallies S (fun c => xCell 3 c d) N
/-- The same with the reduce-scatter's, -/
def OR (S : Finset (Dev nD)) : CellTallies nD τ sig Unit := OA d (Finset.univ.erase d) + tallies S (fun c => xCell 1 c d) N
/-- and with the barrier's. -/
def OB (S : Finset (Dev nD)) : CellTallies nD τ sig Unit := OR d (Finset.univ.erase d) + tallies S barCell 1
/-- What device `d` owes at launch. -/
def O₀ : CellTallies nD τ sig Unit := OB d (Finset.univ.erase d)

def L (g : GSem nD τ sig) : Finset Unit := if g.1.2 = .tc then {()} else ∅
/-- Barrier cells at 1, reduce-scatter receive cells at 2, all-gather receive cells at 3, everything else at 0. -/
def lv (g : GSem nD τ sig) (_ : Unit) : ℕ := match g.2 with
  | .reg _ => 1
  | .dma q => match slotOf q with
    | some (k, _) => if k = 1 then 2 else if k = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_x (k : Fin 4) (c j : Dev nD) : lv (xCell k c j) () = if k = 1 then 2 else if k = 3 then 3 else 0 := by
  dsimp only [lv]; rw [slotOf_dsem]
theorem lv_stage (c : Dev nD) (q : DmaSem sig) (h : slotOf q = none) : lv ((c : Thread nD τ), .dma q) () = 0 := by
  dsimp only [lv]; rw [h]

theorem OA_pos {S} {g : GSem nD τ sig} {u : Unit} (h : 0 < OA d S g u) : ∃ c, g = xCell 3 c d :=
  let ⟨c, _, e⟩ := tallies_pos h; ⟨c, e⟩
theorem OR_pos {S} {g : GSem nD τ sig} {u : Unit} (h : 0 < OR d S g u) : ∃ k c, (k = 1 ∨ k = 3) ∧ g = xCell k c d := by
  unfold OR at h; rw [Pi.add_apply, Finsupp.add_apply] at h
  rcases Nat.pos_of_ne_zero (Nat.pos_iff_ne_zero.mp h) |> (fun h => Nat.add_pos_iff_pos_or_pos.mp h) with h | h
  · obtain ⟨c, e⟩ := OA_pos d h; exact ⟨3, c, .inr rfl, e⟩
  · obtain ⟨c, _, e⟩ := tallies_pos h; exact ⟨1, c, .inl rfl, e⟩
theorem OB_pos {S} {g : GSem nD τ sig} {u : Unit} (h : 0 < OB d S g u) :
    (∃ c, g = barCell c) ∨ ∃ k c, (k = 1 ∨ k = 3) ∧ g = xCell k c d := by
  unfold OB at h; rw [Pi.add_apply, Finsupp.add_apply] at h
  rcases Nat.add_pos_iff_pos_or_pos.mp h with h | h
  · exact .inr (OR_pos d h)
  · obtain ⟨c, _, e⟩ := tallies_pos h; exact .inl ⟨c, e⟩

/-- A wait at level `n` on what is owed above `n`. -/
theorem mayWait_of (sm : SemLoc sig) (n : ℕ) (O : CellTallies nD τ sig Unit) (hs : lv ((d : Thread nD τ), sm) () ≤ n)
    (hO : ∀ g u, 0 < O g u → g.1.2 = .tc ∧ n < lv g ()) :
    (levAts L lv : sProp 𝕄) ⊢ MayWait (d : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_bar : (levAts L lv : sProp 𝕄) ⊢ MayWait (d : Thread nD τ) (.reg barS) () (OR d (Finset.univ.erase d)) :=
  mayWait_of d _ 1 _ (Nat.le_refl _) fun g u h => by
    obtain ⟨k, c, hk, rfl⟩ := OR_pos d h
    refine ⟨rfl, ?_⟩
    rcases hk with rfl | rfl <;> rw [lv_x] <;> decide

theorem mayWait_rs (j : Dev nD) : (levAts L lv : sProp 𝕄) ⊢ MayWait (d : Thread nD τ) (.dma (dsem 1 j)) () (OA d (Finset.univ.erase d)) :=
  mayWait_of d _ 2 _ (by rw [lv_x]; decide) fun g u h => by
    obtain ⟨c, rfl⟩ := OA_pos d h
    refine ⟨rfl, ?_⟩
    rw [lv_x]; decide

theorem mayWait_stage (q : DmaSem sig) (hq : slotOf q = none) (O : CellTallies nD τ sig Unit) (hO : O = O₀ d ∨ O = 0) :
    (levAts L lv : sProp 𝕄) ⊢ MayWait (d : Thread nD τ) (.dma q) () O := by
  rcases hO with rfl | rfl
  · refine mayWait_of d _ 0 _ (by rw [lv_stage d q hq]) fun g u h => ?_
    rcases OB_pos d h with ⟨c, rfl⟩ | ⟨k, c, hk, rfl⟩
    · exact ⟨rfl, by rw [lv_bar]; decide⟩
    · refine ⟨rfl, ?_⟩
      rcases hk with rfl | rfl <;> rw [lv_x] <;> decide
  · rw [MayWait_zero]; iintro -; iempintro

end Cert.KernelIdeal.AR

end
-- ==== Proof.Slots.lean ====
/-
# The slots of the landing buffers and the chunks of the partial result: sets, reads and writes
-/
module

public import proofs.«01_k».proof.Proof.Sched
public import Idealize.ShloMosaic.Lib.Pipeline.Value

@[expose] public section

set_option maxRecDepth 16384

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots and chunks cut the buffers -/

theorem mem_slot (j : Dev nD) (i : S32x16x512.Idx) : i ∈ (slotR j).set ↔ i 0 = j := by
  rw [Rect.mem_set_unit]
  have h1 : (i 1).val < 16 := (i 1).isLt
  have h2 : (i 2).val < 512 := (i 2).isLt
  constructor
  · intro h
    have := h 0
    exact Fin.ext (by simp at this; omega)
  · rintro rfl a
    fin_cases a
    · simp
    · simpa using h1
    · simpa using h2

theorem mem_chunk (j : Dev nD) (i : S512x512.Idx) : i ∈ (chunkR j).set ↔ (i 0).val / 16 = j.val := by
  rw [Rect.mem_set_unit]
  have h1 : (i 1).val < 512 := (i 1).isLt
  constructor
  · intro h
    have := h 0
    simp at this; omega
  · intro e a
    fin_cases a
    · simp; omega
    · simpa using h1

theorem rsS_set (j : Dev nD) : (rsS j).view.set = (slotR j).set := (View.set_reshape _ _).trans (View.set_slice_whole _ _)
theorem agS_set (j : Dev nD) : (agS j).view.set = (slotR j).set := (View.set_reshape _ _).trans (View.set_slice_whole _ _)
theorem accC_set (j : Dev nD) : (accC j).view.set = (chunkR j).set := View.set_slice_whole _ _

theorem slots_disjoint : ∀ j ∈ (Finset.univ : Finset (Dev nD)), ∀ j' ∈ (Finset.univ : Finset (Dev nD)), j ≠ j' → Disjoint (slotR j).set (slotR j').set :=
  fun j _ j' _ h => Finset.disjoint_left.mpr fun i hi hi' => h (((mem_slot j i).mp hi).symm.trans ((mem_slot j' i).mp hi'))
theorem chunks_disjoint : ∀ j ∈ (Finset.univ : Finset (Dev nD)), ∀ j' ∈ (Finset.univ : Finset (Dev nD)), j ≠ j' → Disjoint (chunkR j).set (chunkR j').set :=
  fun j _ j' _ h => Finset.disjoint_left.mpr fun i hi hi' => h (Fin.ext (((mem_chunk j i).mp hi).symm.trans ((mem_chunk j' i).mp hi')))
theorem slots_univ : (Finset.univ : Finset S32x16x512.Idx) = Finset.univ.biUnion fun j : Dev nD => (slotR j).set := by
  ext i; simp only [Finset.mem_univ, Finset.mem_biUnion, true_and, true_iff]; exact ⟨i 0, (mem_slot _ i).mpr rfl⟩
set_option backward.proofsInPublic true in
theorem chunks_univ : (Finset.univ : Finset S512x512.Idx) = Finset.univ.biUnion fun j : Dev nD => (chunkR j).set := by
  ext i; simp only [Finset.mem_univ, Finset.mem_biUnion, true_and, true_iff]
  have h : (i 0).val < 512 := (i 0).isLt
  exact ⟨⟨(i 0).val / 16, by show _ < 32; omega⟩, (mem_chunk _ i).mpr rfl⟩

variable (d : Dev nD)

/-- A whole buffer is its slots. -/
theorem acc_split (f : (cc0_scratch0 : Ref sig .tc).ty.Contents (Elt F)) :
    (((d : Thread nD τ).loc cc0_scratch0) ↦{fullShare} f : sProp 𝕄) = bigSep Finset.univ fun j => accPts (F := F) d j f := by
  unfold accPts
  refine Eq.trans (congrArg (fun S => (((d : Thread nD τ).loc cc0_scratch0) ↦[S]{fullShare} f : sProp 𝕄)) chunks_univ) ?_
  rw [pointsTo_biUnion _ _ chunks_disjoint]
  exact BI.bigSep_congr fun j _ => by rw [accC_set]
theorem rs_split (f : (cc0_scratch1 : Ref sig .tc).ty.Contents (Elt F)) :
    (((d : Thread nD τ).loc cc0_scratch1) ↦{fullShare} f : sProp 𝕄) = bigSep Finset.univ fun j => rsPts (F := F) d j f := by
  unfold rsPts
  refine Eq.trans (congrArg (fun S => (((d : Thread nD τ).loc cc0_scratch1) ↦[S]{fullShare} f : sProp 𝕄)) slots_univ) ?_
  rw [pointsTo_biUnion _ _ slots_disjoint]
  exact BI.bigSep_congr fun j _ => by rw [rsS_set]
theorem ag_split (f : (cc0_scratch2 : Ref sig .tc).ty.Contents (Elt F)) :
    (((d : Thread nD τ).loc cc0_scratch2) ↦{fullShare} f : sProp 𝕄) = bigSep Finset.univ fun j => agPts (F := F) d j f := by
  unfold agPts
  refine Eq.trans (congrArg (fun S => (((d : Thread nD τ).loc cc0_scratch2) ↦[S]{fullShare} f : sProp 𝕄)) slots_univ) ?_
  rw [pointsTo_biUnion _ _ slots_disjoint]
  exact BI.bigSep_congr fun j _ => by rw [agS_set]

/-- Device `d`'s own all-gather slot is the shares dealt to the other devices. -/
theorem ag_deal (f : (cc0_scratch2 : Ref sig .tc).ty.Contents (Elt F)) :
    agPts (F := F) d d f = bigSep (Finset.univ.erase d) fun c => agShare (F := F) d c f := by
  unfold agPts agShare
  refine Transfers.pointsTo_deal _ ?_ _
  revert d; decide +kernel

/-! ## What the transfers and the stores leave -/

/-- Where two views read the same, writing what one reads through the other leaves the other's contents on its elements. -/
theorem write_on_set {s : Shape} {e : EltTy} {sp : Space} (v : View sig .tc sp s e) (fd g : v.ty.Contents (Elt F)) (w : s.Idx → Elt F e)
    (h : w = v.read (Elt F) g) : ∀ i ∈ v.set, v.write (Elt F) fd w Finset.univ i = g i := fun i hi => by
  subst h
  rw [View.write_read_eq_piecewise]
  exact Finset.piecewise_eq_of_mem _ _ _ hi

theorem slot_emb (j : Dev nD) (k : S1x16x512.Idx) : (slotR j).emb k = ix3 (n0 := 32) (n1 := 16) (n2 := 512) j (k 1) (k 2) := by
  funext a
  apply Fin.ext
  rw [Rect.emb_apply]
  have h0 : (k 0).val = 0 := by have : (k 0).val < 1 := (k 0).isLt; omega
  fin_cases a
  · simp; exact h0
  · simp
  · simp
theorem chunk_emb (j : Dev nD) (k : S16x512.Idx) : (chunkR j).emb k = ix2 (rowOf j (k 0)) (k 1) := by
  funext a
  apply Fin.ext
  rw [Rect.emb_apply]
  fin_cases a
  · simp [rowOf]
  · simp
theorem squeeze_idx (k : S16x512.Idx) : Shape.reshapeEquiv squeezes_S1x16x512_S16x512.numel_eq k = ix3 (n0 := 1) (n1 := 16) (n2 := 512) 0 (k 0) (k 1) := by
  refine Shape.reshapeEquiv_eq_of_rowMajor _ ?_
  show ((⟨3, ![1, 16, 512]⟩ : Shape).rowMajor (ix3 (n0 := 1) (n1 := 16) (n2 := 512) 0 (k 0) (k 1))).val = ((⟨2, ![16, 512]⟩ : Shape).rowMajor k).val
  rw [Shape.rowMajor_val_three, Shape.rowMajor_val_two]
  simp

theorem slot_idx (j : Dev nD) (k : S16x512.Idx) : (slotR j).emb (Shape.reshapeEquiv squeezes_S1x16x512_S16x512.numel_eq k) = ix3 (n0 := 32) (n1 := 16) (n2 := 512) j (k 0) (k 1) := by
  exact (congrArg (slotR j).emb (squeeze_idx k)).trans (slot_emb j _)

theorem read_rsS (j : Dev nD) (f : (cc0_scratch1 : Ref sig .tc).ty.Contents (Elt F)) (k : S16x512.Idx) :
    (rsS j).view.read (Elt F) f k = f (ix3 (n0 := 32) (n1 := 16) (n2 := 512) j (k 0) (k 1)) := congrArg f (slot_idx j k)
theorem read_accC (j : Dev nD) (f : (cc0_scratch0 : Ref sig .tc).ty.Contents (Elt F)) (k : S16x512.Idx) :
    (accC j).view.read (Elt F) f k = f (ix2 (rowOf j (k 0)) (k 1)) := congrArg f (chunk_emb j k)

/-- Chunk `c` of `d`'s partial result is what slot `d` of `c`'s landing buffer is to hold. -/
theorem sent_rs (c : Dev nD) : (accC c).view.read (Elt F) (acc m d) = (rsS d).view.read (Elt F) (rsAll m c) := by
  funext k; rw [read_rsS, read_accC]; rfl

theorem rs_landed (c : Dev nD) (fd : (cc0_scratch1 : Ref sig .tc).ty.Contents (Elt F)) :
    ((rsS d).view.loc (c : Thread nD τ) ↦[(rsS d).view.set]{fullShare} (rsS d).view.write (Elt F) fd ((accC c).view.read (Elt F) (acc m d)) Finset.univ : sProp 𝕄)
      = rsPts c d (rsAll m c) :=
  pointsTo_congr (write_on_set _ _ _ _ (sent_rs m d c))

theorem ag_landed (c : Dev nD) (fd : (cc0_scratch2 : Ref sig .tc).ty.Contents (Elt F)) :
    ((agS d).view.loc (c : Thread nD τ) ↦[(agS d).view.set]{fullShare} (agS d).view.write (Elt F) fd ((agS d).view.read (Elt F) (agAll m)) Finset.univ : sProp 𝕄)
      = agPts c d (agAll m) :=
  pointsTo_congr (write_on_set (agS d).view fd (agAll m) _ rfl)

/-- Device `d`'s own chunk, stored into its own slot. -/
theorem rs_stored (f : (cc0_scratch1 : Ref sig .tc).ty.Contents (Elt F)) :
    ((rsM.access (slotR d)).loc (d : Thread nD τ) ↦[(rsS d).view.set]{fullShare}
        (rsM.access (slotR d)).write (Elt F) f (k0_pay10 ((accM).view.readAt (Elt F) (chunkR d).toLoadRect (acc m d))) Finset.univ : sProp 𝕄)
      = rsPts d d (rsAll m d) := by
  refine pointsTo_congr fun i hi => write_on_set (rsM.access (slotR d)) f (rsAll m d) _ ?_ i ?_
  · funext k
    rw [View.read_apply]
    refine Eq.trans ?_ (congrArg (rsAll m d) (slot_emb d k)).symm
    unfold k0_pay10
    rw [shapeCast_self]
    refine (shapeCast_apply _ _ k (ix2 (k 1) (k 2)) ?_).trans ?_
    · rw [Shape.rowMajor_val_three, Shape.rowMajor_val_two]
      have h0 : (k 0).val = 0 := by have : (k 0).val < 1 := (k 0).isLt; omega
      simp [h0]
    · exact congrArg (acc m d) (chunk_emb d _)
  · rw [rsS_set] at hi; rw [show (rsM.access (slotR d)).set = (slotR d).set from View.set_slice_whole _ _]; exact hi

/-- The sum, stored into device `d`'s own slot of the gather. -/
theorem ag_stored (f : (cc0_scratch2 : Ref sig .tc).ty.Contents (Elt F)) :
    ((agM.access (slotR d)).loc (d : Thread nD τ) ↦[(agS d).view.set]{fullShare}
        (agM.access (slotR d)).write (Elt F) f (k0_pay11 (rsAll m d)) Finset.univ : sProp 𝕄)
      = agPts d d (agAll m) := by
  refine pointsTo_congr fun i hi => write_on_set (agM.access (slotR d)) f (agAll m) _ ?_ i ?_
  · funext k
    rw [View.read_apply]
    refine Eq.trans ?_ (congrArg (agAll m) (slot_emb d k)).symm
    refine congrArg (red m d) ((eq_ix3 k).trans ?_)
    have h0 : k 0 = (0 : Fin 1) := Fin.ext (by have : (k 0).val < 1 := (k 0).isLt; show (k 0).val = 0; omega)
    rw [h0]
    rfl
  · rw [agS_set] at hi; rw [show (agM.access (slotR d)).set = (slotR d).set from View.set_slice_whole _ _]; exact hi

end Cert.KernelIdeal.AR

end
-- ==== Proof.Steps.lean ====
/-
# The steps of the kernel's sweeps
-/
module

public import proofs.«01_k».proof.Proof.Slots

@[expose] public section

set_option maxRecDepth 16384

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What device `d` runs to. -/
abbrev WP (d : Dev nD) {α : Type} (p : Prog (TpuEff nD τ sig (Elt F) Λ₀ .tc) α) (Q : α → sProp 𝕄) : sProp 𝕄 :=
  wp frame (wpE (defs₀ (F := F)) 𝒱₀ (d : Thread nD τ) none) Set.univ p Q

variable (K : Dev nD × CI → ℕ) (d : Dev nD)

/-- What device `d` owes, its pending waits forgotten. -/
def ow (O : CellTallies nD τ sig Unit) : sProp 𝕄 := iprop(∃ W, owes (d : Thread nD τ) O W)

/-- What every step may use: the cells' invariants and the levels. -/
def ctx : sProp 𝕄 := iprop(records m K ∗ levAts L lv)
instance ctx_persistent : BI.Persistent (ctx m K) := by unfold ctx; infer_instance

/-- One device's part of the signalling: its duty on `c`'s barrier and the two slots it hands over. -/
def sigI (c : Dev nD) : sProp 𝕄 := iprop(dutyTok ER (barCell c) 0 d ∗ barPay (F := F) c d)
/-- Signals to the devices before `i` sent. -/
def sigS (i : ℕ) : sProp 𝕄 := iprop(ow d (OB d (rem d i)) ∗ bigSep (rem d i) (sigI (F := F) d))

/-- What one reduce-scatter transfer to `c` takes. -/
def rsI (c : Dev nD) : sProp 𝕄 :=
  iprop(dutyTok ER (xCell 0 d c) 0 c ∗ dutyTok ER (xCell 1 c d) 0 d ∗ accPts d c (acc m d) ∗ ∃ f, rsPts (F := F) c d f)
/-- What one all-gather transfer to `c` takes. -/
def agI (c : Dev nD) : sProp 𝕄 :=
  iprop(dutyTok ER (xCell 2 d c) 0 c ∗ dutyTok ER (xCell 3 c d) 0 d ∗ agShare d c (agAll m) ∗ ∃ f, agPts (F := F) c d f)
/-- The credit of a slot of array `k`. -/
def crI (k : Fin 4) (c : Dev nD) : sProp 𝕄 := cred (tallyAt (xCell k d c) () N)
/-- Reduce-scatter transfers to the devices before `i` issued. -/
def rsP (i : ℕ) : sProp 𝕄 :=
  iprop(ow d (OR d (rem d i)) ∗ bigSep (rem d i) (rsI m d) ∗ bigSep (fin d i) (crI (F := F) d 0))
/-- All-gather transfers to the devices before `i` issued. -/
def agP (i : ℕ) : sProp 𝕄 :=
  iprop(ow d (OA d (rem d i)) ∗ bigSep (rem d i) (agI m d) ∗ bigSep (fin d i) (crI (F := F) d 2))

/-- What one wait on slot `c` of array `k` takes, -/
def wtI (k : Fin 4) (c : Dev nD) : sProp 𝕄 := iprop(crI (F := F) d k c ∗ atPos ER (xCell k d c) 0 ∅ 0)
/-- and what it leaves. -/
def wtF (k : Fin 4) (c : Dev nD) : sProp 𝕄 := iprop(xPay m k d c ∗ semVal (xCell k d c) 0)
/-- Slots before `i` of array `k` waited for, owing `O`. -/
def wtS (k : Fin 4) (O : CellTallies nD τ sig Unit) (i : ℕ) : sProp 𝕄 :=
  iprop(ow d O ∗ bigSep (rem d i) (wtI (F := F) d k) ∗ bigSep (fin d i) (wtF m d k))

omit [FloatOps F] in
theorem bigSep_take {S : Finset (Dev nD)} {c : Dev nD} (h : c ∉ S) (f : Dev nD → sProp 𝕄) :
    bigSep (insert c S) f = iprop(f c ∗ bigSep S f) := bigSep_insert h

theorem OB_step {n : ℕ} (hn : n < 32) (h : d.val ≠ n) : OB d (rem d n) = OB d (rem d (n + 1)) + tallyAt (barCell ⟨n, hn⟩) () 1 := by
  unfold OB; rw [rem_step d hn h, tallies_insert (not_mem_rem d n hn), add_assoc]
theorem OR_step {n : ℕ} (hn : n < 32) (h : d.val ≠ n) : OR d (rem d n) = OR d (rem d (n + 1)) + tallyAt (xCell 1 ⟨n, hn⟩ d) () N := by
  unfold OR; rw [rem_step d hn h, tallies_insert (not_mem_rem d n hn), add_assoc]
theorem OA_step {n : ℕ} (hn : n < 32) (h : d.val ≠ n) : OA d (rem d n) = OA d (rem d (n + 1)) + tallyAt (xCell 3 ⟨n, hn⟩ d) () N := by
  unfold OA; rw [rem_step d hn h, tallies_insert (not_mem_rem d n hn)]

/-- A slot or a semaphore at an offset the kernel reckons is the one of that number. -/
theorem rsS_at {off : Fin 3 → ℕ} (ho : off = ![d.val, 0, 0]) (inb : ∀ a, off a + S1x16x512.size a ≤ S32x16x512.size a) :
    (rsM.slice (Rect.unit (s := S32x16x512) off S1x16x512.size inb) (fun _ => rfl)).squeeze S16x512 squeezes_S1x16x512_S16x512 = rsS d := by
  subst ho; rfl
theorem agS_at {off : Fin 3 → ℕ} (ho : off = ![d.val, 0, 0]) (inb : ∀ a, off a + S1x16x512.size a ≤ S32x16x512.size a) :
    (agM.slice (Rect.unit (s := S32x16x512) off S1x16x512.size inb) (fun _ => rfl)).squeeze S16x512 squeezes_S1x16x512_S16x512 = agS d := by
  subst ho; rfl
theorem sem_at (k : Fin 4) {off : Fin 1 → ℕ} (ho : off = ![d.val]) (inb : ∀ a, off a + S1.size a ≤ S32.size a) :
    (((arr k).slice (Rect.unit (s := S32) off S1.size inb)).squeeze S_ squeezes_S1_S_).sem = dsem k d := by
  subst ho; exact semAt_eq k d

/-! ## One step of each sweep -/

section Steps

theorem sig_step {n : ℕ} {cond : Prop} [Decidable cond] {α : Type} {Q : α → sProp 𝕄} {k : Prog (TpuEff nD τ sig (Elt F) Λ₀ .tc) α} {R : sProp 𝕄}
    (hn : n < 32) (hc : cond ↔ d.val ≠ n) {dev : ℕ} (hdev : dev = n) {hlt : cond → dev < nD}
    (hk : iprop(ctx m K ∗ sigS (F := F) d (n + 1) ∗ R) ⊢ WP d k Q) :
    iprop(ctx m K ∗ sigS (F := F) d n ∗ R)
      ⊢ WP d (dite cond (fun h => semSignalWord (⟨dev, hlt h⟩ : Dev nD) barS 1#32 >>= fun _ => k) (fun _ => k)) Q := by
  subst hdev
  by_cases h : cond
  · rw [dif_pos h]
    have hne : d.val ≠ dev := hc.mp h
    change _ ⊢ wp frame (wpE (defs₀ (F := F)) 𝒱₀ (d : Thread nD τ) none) Set.univ (.op (.semSignal ((⟨dev, hn⟩ : Dev nD) : Thread nD τ) barS 1) fun _ => k) Q
    unfold sigS ctx ow
    rw [OB_step d hn hne, rem_step d hn hne, bigSep_take (not_mem_rem d dev hn)]
    iintro ⟨⟨#HR, #HL⟩, ⟨⟨%W, HO⟩, Hi, Hs⟩, HRest⟩
    unfold sigI
    icases Hi with ⟨Ht, Hp⟩
    ihave Hcell := (records_at m K ((⟨dev, hn⟩ : Dev nD), none)) $$ HR
    icases Hcell with ⟨#HI, #Hr⟩
    iapply (Rounds.wp_signal 𝒱₀ ER (rd m) (d : Thread nD τ) none (dst := ((⟨dev, hn⟩ : Dev nD) : Thread nD τ)) (κ := K (⟨dev, hn⟩, none)) (r := 0)
        (d := d) (by rw [duties_bar]; exact Finset.mem_erase.mpr ⟨fun e => hne (by rw [e]), Finset.mem_univ _⟩) (amount_bar m _ d) () (OB d (rem d (dev + 1)))
        rfl) $$ [HO Ht Hp]
    · isplitr; · iexact HI
      isplitl [HO]; · iexact HO
      isplitl [Ht]; · iexact Ht
      isplitl [Hp]; · rw [payload_bar]; iexact Hp
      iexact Hr
    iintro HO
    iapply hk
    unfold ctx sigS ow sigI
    isplitr
    · isplitr; · iexact HR
      iexact HL
    isplitr [HRest]
    · isplitl [HO]; · iexists W; iexact HO
      iexact Hs
    iexact HRest
  · rw [dif_neg h]
    have he : d.val = dev := by by_contra hne; exact h (hc.mpr hne)
    refine Entails.trans (Entails.of_eq ?_) hk
    unfold sigS
    rw [rem_skip d he]

/-- A wait on slot `n` of array `a`, then the slot's cell closed. -/
theorem wt_step (a : Fin 4) {n : ℕ} {cond : Prop} [Decidable cond] {α : Type} {Q : α → sProp 𝕄} {k : Prog (TpuEff nD τ sig (Elt F) Λ₀ .tc) α} {R : sProp 𝕄}
    {O : CellTallies nD τ sig Unit} (hM : ∀ c, (levAts L lv : sProp 𝕄) ⊢ MayWait (d : Thread nD τ) (.dma (dsem a c)) () O)
    (hn : n < 32) (hc : cond ↔ d.val ≠ n) {sem : DmaSem sig} (hs : sem = dsem a ⟨n, hn⟩)
    {sp sp' : Space} {s s' : Shape} {e e' : EltTy} {src : cond → Memref sig .tc sp' s' e'} {dst : cond → Memref sig .tc sp s e}
    {hsrc : ∀ h, (src h).view.WordExact} {hdst : ∀ h, (dst h).view.WordExact} (hN : ∀ h, (dst h).view.dmaCredit = N)
    (hk : iprop(ctx m K ∗ wtS m d a O (n + 1) ∗ R) ⊢ WP d k Q) :
    iprop(ctx m K ∗ wtS m d a O n ∗ R)
      ⊢ WP d (dite cond (fun h => Prog.lift (.waitDma2 sem (src h) (dst h) (hsrc h) (hdst h)) >>= fun _ => k) (fun _ => k)) Q := by
  subst hs
  by_cases h : cond
  · rw [dif_pos h]
    have hne : d.val ≠ n := hc.mp h
    have hne' : (⟨n, hn⟩ : Dev nD) ≠ d := fun e => hne (by rw [← e])
    change _ ⊢ wp frame (wpE (defs₀ (F := F)) 𝒱₀ (d : Thread nD τ) none) Set.univ (.op (.waitDma2 (dsem a ⟨n, hn⟩) (src h) (dst h) (hsrc h) (hdst h)) fun _ => k) Q
    unfold wtS ctx ow
    rw [rem_step d hn hne, bigSep_take (not_mem_rem d n hn)]
    unfold wtS ctx ow at hk
    rw [fin_step d hn hne, bigSep_take (not_mem_fin d n hn)] at hk
    iintro ⟨⟨#HR, #HL⟩, ⟨⟨%W, HO⟩, ⟨Hi, Hs⟩, Hf⟩, HRest⟩
    unfold wtI crI
    icases Hi with ⟨Hcr, Hat⟩
    ihave Hcell := (records_at m K (d, some (a, (⟨n, hn⟩ : Dev nD)))) $$ HR
    icases Hcell with ⟨#HI, -⟩
    iapply (Rounds.wp_wait_rest_token 𝒱₀ ER (rd m) (d : Thread nD τ) none (sm := .dma (dsem a ⟨n, hn⟩)) (κ := K (d, some (a, ⟨n, hn⟩)))
        (k' := N) (fun Kk => (wpE_waitDma2_eq 𝒱₀ (d : Thread nD τ) none Set.univ Kk).trans (by rw [hN h])) (Set.mem_univ _) () (O := O) (W := W) (R := 0) (m := 0) (T := ∅)
        (by rw [Nat.zero_add]; exact (expect_x m d ⟨n, hn⟩ a hne').symm)) $$ [Hcr HO Hat]
    · isplitr; · iexact HI
      isplitl [Hcr]; · iexact Hcr
      isplitl [HO]; · iexact HO
      isplitr; · iapply (hM ⟨n, hn⟩); iexact HL
      iexact Hat
    iintro ⟨HO, Hat, -, Hpay⟩
    ihave Hp := (Entails.of_eq (rest_x m d ⟨n, hn⟩ a hne')) $$ Hpay
    imod (Rounds.cell_close ER (rd m) (Set.mem_univ (K (d, some (a, ⟨n, hn⟩)))) (fun h => h) (R := 0 + 1) (duties_later m (xCell a d ⟨n, hn⟩))) $$ [Hat] with Hz
    · isplitr; · iexact HI
      iexact Hat
    iapply hk
    isplitr
    · isplitr; · iexact HR
      iexact HL
    isplitr [HRest]
    · isplitl [HO]; · iexists _; iexact HO
      isplitl [Hs]; · unfold wtI crI; iexact Hs
      isplitr [Hf]
      · unfold wtF; isplitl [Hp] <;> iassumption
      iexact Hf
    iexact HRest
  · rw [dif_neg h]
    have he : d.val = n := by by_contra hne; exact h (hc.mpr hne)
    refine Entails.trans (Entails.of_eq ?_) hk
    unfold wtS
    rw [rem_skip d he, fin_skip d he]

/-- A transfer of chunk `c` to `c`, issued. -/
theorem rs_issue {c : Dev nD} (hne : c ≠ d) {α : Type} {Q : α → sProp 𝕄} {k : PUnit → Prog (TpuEff nD τ sig (Elt F) Λ₀ .tc) α}
    {n : Dev nD} (hnc : n = c) {src : Memref sig .tc .vmem S16x512 .bf16} (hsr : src = accC c) {dst : Memref sig .tc .vmem S16x512 .bf16} (hds : dst = rsS d)
    {sS sR : DmaSem sig} (hS : sS = dsem 0 c) (hR : sR = dsem 1 d) {hsc : dst.view.ref.isScScratch = false}
    {hsrc : src.view.WordExact} {hdst : dst.view.WordExact}
    {hsem : DmaTarget.Typed .vmem (.dma sR) (.remote (Dev.tc n : Thread nD τ) dst (.dma sS) hsc)}
    (O : CellTallies nD τ sig Unit) (W : Waits sig Unit) :
    iprop(ctx m K ∗ rsI m d c ∗ owes (d : Thread nD τ) (O + tallyAt (xCell 1 c d) () N) W)
      ⊢ iprop(((crI (F := F) d 0 c ∗ owes (d : Thread nD τ) O W) -∗ WP d (k ⟨⟩) Q)
          -∗ WP d (.op (.enqueueDma src (.remote (Dev.tc n : Thread nD τ) dst (.dma sS) hsc) (.dma sR) hsrc hdst hsem) k) Q) := by
  subst hnc hsr hds hS hR
  unfold rsI ctx
  iintro ⟨⟨#HR, #HL⟩, ⟨Ht1, Ht2, Hs, ⟨%f, Hd⟩⟩, HO⟩
  ihave H1 := (records_at m K (d, some (0, n))) $$ HR
  icases H1 with ⟨#HI1, #Hr1⟩
  ihave H2 := (records_at m K (n, some (1, d))) $$ HR
  icases H2 with ⟨#HI2, #Hr2⟩
  unfold WP crI accPts rsPts
  iapply (Rounds.wp_send_pointsTo 𝒱₀ ER (rd m) (d : Thread nD τ) none (c' := (n : Thread nD τ)) (src := accC n) (dst := rsS d) (sS := .dma (dsem 0 n)) (sem := .dma (dsem 1 d)) (fs := acc m d) (κ₁ := K (d, some (0, n))) (κ₂ := K (n, some (1, d)))
    (r₁ := 0) (r₂ := 0) (d₁ := n) (d₂ := d) (fd := f)
    (by rw [duties_x m d n 0 hne]; exact Finset.mem_singleton_self _) (by rw [duties_x m n d 1 hne.symm]; exact Finset.mem_singleton_self _)
    () () N (N_rs d) (amount_x m d n 0 n) (amount_x m n d 1 d) O rfl (W := W)
    (by rw [payload_x]; exact Entails.refl _)
    (by rw [payload_x]; exact Entails.of_eq (rs_landed m d n f)))
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- A transfer of the reduced chunk to `c`, issued. -/
theorem ag_issue {c : Dev nD} (hne : c ≠ d) {α : Type} {Q : α → sProp 𝕄} {k : PUnit → Prog (TpuEff nD τ sig (Elt F) Λ₀ .tc) α}
    {n : Dev nD} (hnc : n = c) {src : Memref sig .tc .vmem S16x512 .bf16} (hsr : src = agS d) {dst : Memref sig .tc .vmem S16x512 .bf16} (hds : dst = agS d)
    {sS sR : DmaSem sig} (hS : sS = dsem 2 c) (hR : sR = dsem 3 d) {hsc : dst.view.ref.isScScratch = false}
    {hsrc : src.view.WordExact} {hdst : dst.view.WordExact}
    {hsem : DmaTarget.Typed .vmem (.dma sR) (.remote (Dev.tc n : Thread nD τ) dst (.dma sS) hsc)}
    (O : CellTallies nD τ sig Unit) (W : Waits sig Unit) :
    iprop(ctx m K ∗ agI m d c ∗ owes (d : Thread nD τ) (O + tallyAt (xCell 3 c d) () N) W)
      ⊢ iprop(((crI (F := F) d 2 c ∗ owes (d : Thread nD τ) O W) -∗ WP d (k ⟨⟩) Q)
          -∗ WP d (.op (.enqueueDma src (.remote (Dev.tc n : Thread nD τ) dst (.dma sS) hsc) (.dma sR) hsrc hdst hsem) k) Q) := by
  subst hnc hsr hds hS hR
  unfold agI ctx
  iintro ⟨⟨#HR, #HL⟩, ⟨Ht1, Ht2, Hs, ⟨%f, Hd⟩⟩, HO⟩
  ihave H1 := (records_at m K (d, some (2, n))) $$ HR
  icases H1 with ⟨#HI1, #Hr1⟩
  ihave H2 := (records_at m K (n, some (3, d))) $$ HR
  icases H2 with ⟨#HI2, #Hr2⟩
  unfold WP crI agShare agPts
  iapply (Rounds.wp_send_pointsTo 𝒱₀ ER (rd m) (d : Thread nD τ) none (c' := (n : Thread nD τ)) (src := agS d) (dst := agS d) (sS := .dma (dsem 2 n)) (sem := .dma (dsem 3 d)) (fs := agAll m) (κ₁ := K (d, some (2, n))) (κ₂ := K (n, some (3, d)))
    (r₁ := 0) (r₂ := 0) (d₁ := n) (d₂ := d) (fd := f)
    (by rw [duties_x m d n 2 hne]; exact Finset.mem_singleton_self _) (by rw [duties_x m n d 3 hne.symm]; exact Finset.mem_singleton_self _)
    () () N (N_ag d) (amount_x m d n 2 n) (amount_x m n d 3 d) O rfl (W := W)
    (by rw [payload_x]; exact Entails.refl _)
    (by rw [payload_x]; exact Entails.of_eq (ag_landed m d n f)))
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

theorem rs_step {n : ℕ} {cond : Prop} [Decidable cond] {α : Type} {Q : α → sProp 𝕄} {k : Prog (TpuEff nD τ sig (Elt F) Λ₀ .tc) α} {R : sProp 𝕄}
    (hn : n < 32) (hc : cond ↔ d.val ≠ n) {dev : ℕ} (hdev : dev = n) {hlt : cond → dev < nD}
    {src dst : cond → Memref sig .tc .vmem S16x512 .bf16} (hsr : ∀ h, src h = accC ⟨n, hn⟩) (hds : ∀ h, dst h = rsS d)
    {sS : DmaSem sig} {sR : cond → DmaSem sig} (hS : sS = dsem 0 ⟨n, hn⟩) (hR : ∀ h, sR h = dsem 1 d)
    {hsc : ∀ h, (dst h).view.ref.isScScratch = false}
    {hsrc : ∀ h, (src h).view.WordExact} {hdst : ∀ h, (dst h).view.WordExact}
    {hsem : ∀ h, DmaTarget.Typed .vmem (.dma (sR h)) (.remote (Dev.tc (⟨dev, hlt h⟩ : Dev nD) : Thread nD τ) (dst h) (.dma sS) (hsc h))}
    (hk : iprop(ctx m K ∗ rsP m d (n + 1) ∗ R) ⊢ WP d k Q) :
    iprop(ctx m K ∗ rsP m d n ∗ R)
      ⊢ WP d (dite cond (fun h => Prog.lift (.enqueueDma (src h) (.remote (Dev.tc (⟨dev, hlt h⟩ : Dev nD)) (dst h) (.dma sS) (hsc h)) (.dma (sR h)) (hsrc h) (hdst h) (hsem h))
          >>= fun _ => k) (fun _ => k)) Q := by
  by_cases h : cond
  · rw [dif_pos h]
    have hne : d.val ≠ n := hc.mp h
    have hne' : (⟨n, hn⟩ : Dev nD) ≠ d := fun e => hne (by rw [← e])
    change _ ⊢ WP d (.op (.enqueueDma (src h) (.remote (Dev.tc (⟨dev, hlt h⟩ : Dev nD)) (dst h) (.dma sS) (hsc h)) (.dma (sR h)) (hsrc h) (hdst h) (hsem h)) fun _ => k) Q
    unfold rsP ow at hk ⊢
    rw [fin_step d hn hne, bigSep_take (not_mem_fin d n hn)] at hk
    rw [OR_step d hn hne, rem_step d hn hne, bigSep_take (not_mem_rem d n hn)]
    iintro ⟨#HC, ⟨⟨%W, HO⟩, ⟨Hi, Hs⟩, Hf⟩, HRest⟩
    iapply (rs_issue m K d hne' (c := ⟨n, hn⟩) (Fin.ext hdev) (hsr h) (hds h) hS (hR h) (OR d (rem d (n + 1))) W) $$ [Hi HO]
    · isplitr; · iexact HC
      isplitl [Hi] <;> iassumption
    iintro ⟨Hcr, HO⟩
    iapply hk
    isplitr; · iexact HC
    isplitr [HRest]
    · isplitl [HO]; · iexists W; iexact HO
      isplitl [Hs]; · iexact Hs
      isplitl [Hcr] <;> iassumption
    iexact HRest
  · rw [dif_neg h]
    have he : d.val = n := by by_contra hne; exact h (hc.mpr hne)
    refine Entails.trans (Entails.of_eq ?_) hk
    unfold rsP
    rw [rem_skip d he, fin_skip d he]

theorem ag_step {n : ℕ} {cond : Prop} [Decidable cond] {α : Type} {Q : α → sProp 𝕄} {k : Prog (TpuEff nD τ sig (Elt F) Λ₀ .tc) α} {R : sProp 𝕄}
    (hn : n < 32) (hc : cond ↔ d.val ≠ n) {dev : ℕ} (hdev : dev = n) {hlt : cond → dev < nD}
    {src dst : cond → Memref sig .tc .vmem S16x512 .bf16} (hsr : ∀ h, src h = agS d) (hds : ∀ h, dst h = agS d)
    {sS : DmaSem sig} {sR : cond → DmaSem sig} (hS : sS = dsem 2 ⟨n, hn⟩) (hR : ∀ h, sR h = dsem 3 d)
    {hsc : ∀ h, (dst h).view.ref.isScScratch = false}
    {hsrc : ∀ h, (src h).view.WordExact} {hdst : ∀ h, (dst h).view.WordExact}
    {hsem : ∀ h, DmaTarget.Typed .vmem (.dma (sR h)) (.remote (Dev.tc (⟨dev, hlt h⟩ : Dev nD) : Thread nD τ) (dst h) (.dma sS) (hsc h))}
    (hk : iprop(ctx m K ∗ agP m d (n + 1) ∗ R) ⊢ WP d k Q) :
    iprop(ctx m K ∗ agP m d n ∗ R)
      ⊢ WP d (dite cond (fun h => Prog.lift (.enqueueDma (src h) (.remote (Dev.tc (⟨dev, hlt h⟩ : Dev nD)) (dst h) (.dma sS) (hsc h)) (.dma (sR h)) (hsrc h) (hdst h) (hsem h))
          >>= fun _ => k) (fun _ => k)) Q := by
  by_cases h : cond
  · rw [dif_pos h]
    have hne : d.val ≠ n := hc.mp h
    have hne' : (⟨n, hn⟩ : Dev nD) ≠ d := fun e => hne (by rw [← e])
    change _ ⊢ WP d (.op (.enqueueDma (src h) (.remote (Dev.tc (⟨dev, hlt h⟩ : Dev nD)) (dst h) (.dma sS) (hsc h)) (.dma (sR h)) (hsrc h) (hdst h) (hsem h)) fun _ => k) Q
    unfold agP ow at hk ⊢
    rw [fin_step d hn hne, bigSep_take (not_mem_fin d n hn)] at hk
    rw [OA_step d hn hne, rem_step d hn hne, bigSep_take (not_mem_rem d n hn)]
    iintro ⟨#HC, ⟨⟨%W, HO⟩, ⟨Hi, Hs⟩, Hf⟩, HRest⟩
    iapply (ag_issue m K d hne' (c := ⟨n, hn⟩) (Fin.ext hdev) (hsr h) (hds h) hS (hR h) (OA d (rem d (n + 1))) W) $$ [Hi HO]
    · isplitr; · iexact HC
      isplitl [Hi] <;> iassumption
    iintro ⟨Hcr, HO⟩
    iapply hk
    isplitr; · iexact HC
    isplitr [HRest]
    · isplitl [HO]; · iexists W; iexact HO
      isplitl [Hs]; · iexact Hs
      isplitl [Hcr] <;> iassumption
    iexact HRest
  · rw [dif_neg h]
    have he : d.val = n := by by_contra hne; exact h (hc.mpr hne)
    refine Entails.trans (Entails.of_eq ?_) hk
    unfold agP
    rw [rem_skip d he, fin_skip d he]

end Steps

/-- The end of a part: its last state handed on. -/
theorem part_end {α : Type} {Q : α → sProp 𝕄} {v : α} {S : sProp 𝕄} : iprop(ctx m K ∗ S ∗ (S -∗ Q v)) ⊢ WP d (pure v) Q := by
  iintro ⟨-, HS, Hk⟩
  unfold WP; rw [Prog.pure_eq_ret, wp_ret]; imodintro
  iapply Hk; iexact HS
theorem part_end' {α : Type} {Q : α → sProp 𝕄} {v : α} {S : sProp 𝕄} : iprop(ctx m K ∗ S ∗ (∀ r, S -∗ Q r)) ⊢ WP d (pure v) Q := by
  iintro ⟨-, HS, Hk⟩
  unfold WP; rw [Prog.pure_eq_ret, wp_ret]; imodintro
  iapply Hk; iexact HS

omit [FloatOps F] in
theorem mayWait_none (sm : SemLoc sig) : (levAts L lv : sProp 𝕄) ⊢ MayWait (d : Thread nD τ) sm () 0 := by
  rw [MayWait_zero]; iintro -; iempintro

/-- The all-gather's transfers all issued: nothing is owed any more, and the waits of the send side of array `b` begin. -/
theorem ag_to_wt {α : Type} {Q : α → sProp 𝕄} {k : Prog (TpuEff nD τ sig (Elt F) Λ₀ .tc) α} {R : sProp 𝕄}
    (hk : iprop(ctx m K ∗ wtS m d 0 0 0 ∗ bigSep (fin d 32) (crI (F := F) d 2) ∗ R) ⊢ WP d k Q) :
    iprop(ctx m K ∗ agP m d 32 ∗ bigSep (rem d 0) (wtI (F := F) d 0) ∗ R) ⊢ WP d k Q := by
  refine BIBase.Entails.trans ?_ hk
  unfold agP wtS OA
  rw [rem_last, tallies_empty, fin_zero, bigSep_empty, bigSep_empty]
  iintro ⟨#HC, ⟨HO, -, Hcr⟩, Hw, HR⟩
  isplitr; · iexact HC
  isplitl [HO Hw]
  · isplitl [HO]; · iexact HO
    isplitl [Hw]; · iexact Hw
    iempintro
  isplitl [Hcr] <;> iassumption

/-- The waits on array `a` over, those on array `b` begin. -/
theorem wt_next (a b : Fin 4) {O : CellTallies nD τ sig Unit} {α : Type} {Q : α → sProp 𝕄} {k : Prog (TpuEff nD τ sig (Elt F) Λ₀ .tc) α} {R : sProp 𝕄}
    (hk : iprop(ctx m K ∗ wtS m d b O 0 ∗ bigSep (fin d 32) (wtF m d a) ∗ R) ⊢ WP d k Q) :
    iprop(ctx m K ∗ wtS m d a O 32 ∗ bigSep (rem d 0) (wtI (F := F) d b) ∗ R) ⊢ WP d k Q := by
  refine BIBase.Entails.trans ?_ hk
  unfold wtS
  rw [rem_last, fin_zero, bigSep_empty, bigSep_empty]
  iintro ⟨#HC, ⟨HO, -, Hf⟩, Hw, HR⟩
  isplitr; · iexact HC
  isplitl [HO Hw]
  · isplitl [HO]; · iexact HO
    isplitl [Hw]; · iexact Hw
    iempintro
  isplitl [Hf] <;> iassumption

end Cert.KernelIdeal.AR

end
-- ==== Proof.Parts1.lean ====
/-
# The kernel's regular parts, 1
-/
module

public import proofs.«01_k».proof.Proof.Steps

@[expose] public section

set_option maxRecDepth 16384
set_option maxHeartbeats 2000000

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ) (d : Dev nD)

theorem part2 {Q : PUnit → sProp 𝕄} :
    iprop(ctx m K ∗ sigS (F := F) d 8 ∗ (∀ r, sigS (F := F) d 18 -∗ Q r)) ⊢ WP d (k0_part2 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) (SemArray.scalar (sig.barrier 0 rfl))) Q := by
  rw [k0_part2_eq_skeleton]; unfold k0_part2_skel
  iterate 10 refine sig_step m K d (by decide) (by generalize d = e; revert e; decide +kernel) (by decide +kernel) ?_
  exact part_end' m K d

theorem part3 {Q : PUnit → sProp 𝕄} :
    iprop(ctx m K ∗ sigS (F := F) d 18 ∗ (∀ r, sigS (F := F) d 28 -∗ Q r)) ⊢ WP d (k0_part3 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) (SemArray.scalar (sig.barrier 0 rfl))) Q := by
  rw [k0_part3_eq_skeleton]; unfold k0_part3_skel
  iterate 10 refine sig_step m K d (by decide) (by generalize d = e; revert e; decide +kernel) (by decide +kernel) ?_
  exact part_end' m K d

theorem part7 {Q : BitVec 32 → sProp 𝕄} (v : BitVec 32) :
    iprop(ctx m K ∗ rsP m d 6 ∗ (∀ r, rsP m d 16 -∗ Q r)) ⊢ WP d (k0_part7 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v) Q := by
  rw [k0_part7_eq_skeleton]; unfold k0_part7_skel
  iterate 10 refine rs_step m K d (by decide) (by generalize d = e; revert e; decide +kernel) (by decide +kernel) (by exact fun h => rfl) (by exact fun h => rsS_at d ClosedOff.eq _) (by decide +kernel) (by exact fun h => sem_at d 1 ClosedOff.eq _) ?_
  exact part_end' m K d

theorem part8 {Q : BitVec 32 → sProp 𝕄} (v : BitVec 32) :
    iprop(ctx m K ∗ rsP m d 16 ∗ (∀ r, rsP m d 26 -∗ Q r)) ⊢ WP d (k0_part8 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v) Q := by
  rw [k0_part8_eq_skeleton]; unfold k0_part8_skel
  iterate 10 refine rs_step m K d (by decide) (by generalize d = e; revert e; decide +kernel) (by decide +kernel) (by exact fun h => rfl) (by exact fun h => rsS_at d ClosedOff.eq _) (by decide +kernel) (by exact fun h => sem_at d 1 ClosedOff.eq _) ?_
  exact part_end' m K d

theorem part10 {Q : BitVec 1 → sProp 𝕄} :
    iprop(ctx m K ∗ wtS m d 1 (OA d (Finset.univ.erase d)) 1 ∗ (wtS m d 1 (OA d (Finset.univ.erase d)) 11 -∗ Q (Scalar.cmpi .ne (posW d) 11#32))) ⊢ WP d (k0_part10 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 (posW d) (Scalar.cmpi .ne (posW d) 1#32)) Q := by
  rw [k0_part10_eq_skeleton]; unfold k0_part10_skel
  iterate 10 refine wt_step m K d 1 (fun c => mayWait_rs d c) (by decide) (by generalize d = e; revert e; decide +kernel) (by decide +kernel) (by exact fun h => rfl) ?_
  exact part_end m K d

theorem part11 {Q : BitVec 1 → sProp 𝕄} :
    iprop(ctx m K ∗ wtS m d 1 (OA d (Finset.univ.erase d)) 11 ∗ (wtS m d 1 (OA d (Finset.univ.erase d)) 21 -∗ Q (Scalar.cmpi .ne (posW d) 21#32))) ⊢ WP d (k0_part11 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 (posW d) (Scalar.cmpi .ne (posW d) 11#32)) Q := by
  rw [k0_part11_eq_skeleton]; unfold k0_part11_skel
  iterate 10 refine wt_step m K d 1 (fun c => mayWait_rs d c) (by decide) (by generalize d = e; revert e; decide +kernel) (by decide +kernel) (by exact fun h => rfl) ?_
  exact part_end m K d

theorem part12 {Q : BitVec 1 → sProp 𝕄} :
    iprop(ctx m K ∗ wtS m d 1 (OA d (Finset.univ.erase d)) 21 ∗ (wtS m d 1 (OA d (Finset.univ.erase d)) 31 -∗ Q (Scalar.cmpi .ne (posW d) 31#32))) ⊢ WP d (k0_part12 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 (posW d) (Scalar.cmpi .ne (posW d) 21#32)) Q := by
  rw [k0_part12_eq_skeleton]; unfold k0_part12_skel
  iterate 10 refine wt_step m K d 1 (fun c => mayWait_rs d c) (by decide) (by generalize d = e; revert e; decide +kernel) (by decide +kernel) (by exact fun h => rfl) ?_
  exact part_end m K d

end Cert.KernelIdeal.AR

end
-- ==== Proof.Parts2.lean ====
/-
# The kernel's regular parts, 2
-/
module

public import proofs.«01_k».proof.Proof.Steps

@[expose] public section

set_option maxRecDepth 16384
set_option maxHeartbeats 2000000

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ) (d : Dev nD)

theorem part14 {Q : (Σ' (_ : BitVec 32), BitVec 32) → sProp 𝕄} (v w : BitVec 32) :
    iprop(ctx m K ∗ agP m d 6 ∗ (∀ r, agP m d 16 -∗ Q r)) ⊢ WP d (k0_part14 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part14_eq_skeleton]; unfold k0_part14_skel
  iterate 10 refine ag_step m K d (by decide) (by generalize d = e; revert e; decide +kernel) (by decide +kernel) (by exact fun h => agS_at d ClosedOff.eq _) (by exact fun h => agS_at d ClosedOff.eq _) (by decide +kernel) (by exact fun h => sem_at d 3 ClosedOff.eq _) ?_
  exact part_end' m K d

theorem part15 {Q : (Σ' (_ : BitVec 32), BitVec 32) → sProp 𝕄} (v w : BitVec 32) :
    iprop(ctx m K ∗ agP m d 16 ∗ (∀ r, agP m d 26 -∗ Q r)) ⊢ WP d (k0_part15 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part15_eq_skeleton]; unfold k0_part15_skel
  iterate 10 refine ag_step m K d (by decide) (by generalize d = e; revert e; decide +kernel) (by decide +kernel) (by exact fun h => agS_at d ClosedOff.eq _) (by exact fun h => agS_at d ClosedOff.eq _) (by decide +kernel) (by exact fun h => sem_at d 3 ClosedOff.eq _) ?_
  exact part_end' m K d

theorem part16 {Q : (Σ' (_ : BitVec 32), BitVec 32) → sProp 𝕄} (v w : BitVec 32) :
    iprop(ctx m K ∗ agP m d 26 ∗ bigSep (rem d 0) (wtI (F := F) d 0) ∗ (∀ r, (wtS m d 0 0 4 ∗ bigSep (fin d 32) (crI (F := F) d 2)) -∗ Q r)) ⊢ WP d (k0_part16 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part16_eq_skeleton]; unfold k0_part16_skel
  iterate 6 refine ag_step m K d (by decide) (by generalize d = e; revert e; decide +kernel) (by decide +kernel) (by exact fun h => agS_at d ClosedOff.eq _) (by exact fun h => agS_at d ClosedOff.eq _) (by decide +kernel) (by exact fun h => sem_at d 3 ClosedOff.eq _) ?_
  refine ag_to_wt m K d ?_
  iterate 4 refine wt_step m K d 0 (fun c => mayWait_none d _) (by decide) (by generalize d = e; revert e; decide +kernel) (by decide +kernel) (by exact fun h => rfl) ?_
  refine BIBase.Entails.trans ?_ (part_end' m K d (S := iprop(wtS m d 0 0 4 ∗ bigSep (fin d 32) (crI (F := F) d 2))))
  iintro ⟨HC, HS, Hcr, Hk⟩
  isplitl [HC]; · iexact HC
  isplitr [Hk]
  · isplitl [HS] <;> iassumption
  iexact Hk

end Cert.KernelIdeal.AR

end
-- ==== Proof.Parts3.lean ====
/-
# The kernel's regular parts, 3
-/
module

public import proofs.«01_k».proof.Proof.Steps

@[expose] public section

set_option maxRecDepth 16384
set_option maxHeartbeats 2000000

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ) (d : Dev nD)

theorem part17 {Q : (Σ' (_ : BitVec 32), BitVec 32) → sProp 𝕄} (v w : BitVec 32) :
    iprop(ctx m K ∗ wtS m d 0 0 4 ∗ (∀ r, wtS m d 0 0 14 -∗ Q r)) ⊢ WP d (k0_part17 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part17_eq_skeleton]; unfold k0_part17_skel
  iterate 10 refine wt_step m K d 0 (fun c => mayWait_none d _) (by decide) (by generalize d = e; revert e; decide +kernel) (by decide +kernel) (by exact fun h => rfl) ?_
  exact part_end' m K d

theorem part18 {Q : (Σ' (_ : BitVec 32), BitVec 32) → sProp 𝕄} (v w : BitVec 32) :
    iprop(ctx m K ∗ wtS m d 0 0 14 ∗ (∀ r, wtS m d 0 0 24 -∗ Q r)) ⊢ WP d (k0_part18 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part18_eq_skeleton]; unfold k0_part18_skel
  iterate 10 refine wt_step m K d 0 (fun c => mayWait_none d _) (by decide) (by generalize d = e; revert e; decide +kernel) (by decide +kernel) (by exact fun h => rfl) ?_
  exact part_end' m K d

theorem part19 {Q : (Σ' (_ : BitVec 32), BitVec 32) → sProp 𝕄} (v w : BitVec 32) :
    iprop(ctx m K ∗ wtS m d 0 0 24 ∗ bigSep (rem d 0) (wtI (F := F) d 3) ∗ ((wtS m d 3 0 2 ∗ bigSep (fin d 32) (wtF m d 0)) -∗ Q ⟨Scalar.extui (Scalar.cmpi .ne (posW d) 2#32), 0#32⟩)) ⊢ WP d (k0_part19 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part19_eq_skeleton]; unfold k0_part19_skel
  iterate 8 refine wt_step m K d 0 (fun c => mayWait_none d _) (by decide) (by generalize d = e; revert e; decide +kernel) (by decide +kernel) (by exact fun h => rfl) ?_
  refine wt_next m K d 0 3 ?_
  iterate 2 refine wt_step m K d 3 (fun c => mayWait_none d _) (by decide) (by generalize d = e; revert e; decide +kernel) (by decide +kernel) (by exact fun h => rfl) ?_
  refine BIBase.Entails.trans ?_ (part_end m K d (S := iprop(wtS m d 3 0 2 ∗ bigSep (fin d 32) (wtF m d 0))))
  iintro ⟨HC, HS, Hcr, Hk⟩
  isplitl [HC]; · iexact HC
  isplitr [Hk]
  · isplitl [HS] <;> iassumption
  iexact Hk

theorem part20 {Q : (Σ' (_ : BitVec 32), BitVec 32) → sProp 𝕄} :
    iprop(ctx m K ∗ wtS m d 3 0 2 ∗ (wtS m d 3 0 12 -∗ Q ⟨Scalar.extui (Scalar.cmpi .ne (posW d) 12#32), 0#32⟩)) ⊢ WP d (k0_part20 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 (posW d) (Scalar.extui (Scalar.cmpi .ne (posW d) 2#32)) 0#32) Q := by
  rw [k0_part20_eq_skeleton]; unfold k0_part20_skel
  iterate 10 refine wt_step m K d 3 (fun c => mayWait_none d _) (by decide) (by generalize d = e; revert e; decide +kernel) (by decide +kernel) (by exact fun h => rfl) ?_
  exact part_end m K d

theorem part21 {Q : (Σ' (_ : BitVec 32), BitVec 32) → sProp 𝕄} :
    iprop(ctx m K ∗ wtS m d 3 0 12 ∗ (wtS m d 3 0 22 -∗ Q ⟨Scalar.extui (Scalar.cmpi .ne (posW d) 22#32), 0#32⟩)) ⊢ WP d (k0_part21 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 (posW d) (Scalar.extui (Scalar.cmpi .ne (posW d) 12#32)) 0#32) Q := by
  rw [k0_part21_eq_skeleton]; unfold k0_part21_skel
  iterate 10 refine wt_step m K d 3 (fun c => mayWait_none d _) (by decide) (by generalize d = e; revert e; decide +kernel) (by decide +kernel) (by exact fun h => rfl) ?_
  exact part_end m K d

theorem part22 {Q : (Σ' (_ : BitVec 32), BitVec 32) → sProp 𝕄} :
    iprop(ctx m K ∗ wtS m d 3 0 22 ∗ (wtS m d 3 0 32 -∗ Q ⟨Scalar.extui (Scalar.cmpi .ne (posW d) 0#32), 0#32⟩)) ⊢ WP d (k0_part22 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 (posW d) (Scalar.extui (Scalar.cmpi .ne (posW d) 22#32)) 0#32) Q := by
  rw [k0_part22_eq_skeleton]; unfold k0_part22_skel
  iterate 10 refine wt_step m K d 3 (fun c => mayWait_none d _) (by decide) (by generalize d = e; revert e; decide +kernel) (by decide +kernel) (by exact fun h => rfl) ?_
  exact part_end m K d

theorem part23 {Q : (Σ' (_ : BitVec 32), BitVec 32) → sProp 𝕄} (v w : BitVec 32) :
    iprop(ctx m K ∗ wtS m d 2 0 0 ∗ (∀ r, wtS m d 2 0 10 -∗ Q r)) ⊢ WP d (k0_part23 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part23_eq_skeleton]; unfold k0_part23_skel
  iterate 10 refine wt_step m K d 2 (fun c => mayWait_none d _) (by decide) (by generalize d = e; revert e; decide +kernel) (by decide +kernel) (by exact fun h => rfl) ?_
  exact part_end' m K d

theorem part24 {Q : (Σ' (_ : BitVec 32), BitVec 32) → sProp 𝕄} (v w : BitVec 32) :
    iprop(ctx m K ∗ wtS m d 2 0 10 ∗ (∀ r, wtS m d 2 0 20 -∗ Q r)) ⊢ WP d (k0_part24 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part24_eq_skeleton]; unfold k0_part24_skel
  iterate 10 refine wt_step m K d 2 (fun c => mayWait_none d _) (by decide) (by generalize d = e; revert e; decide +kernel) (by decide +kernel) (by exact fun h => rfl) ?_
  exact part_end' m K d

theorem part25 {Q : (Σ' (_ : BitVec 32), BitVec 32) → sProp 𝕄} (v w : BitVec 32) :
    iprop(ctx m K ∗ wtS m d 2 0 20 ∗ (∀ r, wtS m d 2 0 30 -∗ Q r)) ⊢ WP d (k0_part25 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) v w) Q := by
  rw [k0_part25_eq_skeleton]; unfold k0_part25_skel
  iterate 10 refine wt_step m K d 2 (fun c => mayWait_none d _) (by decide) (by generalize d = e; revert e; decide +kernel) (by decide +kernel) (by exact fun h => rfl) ?_
  exact part_end' m K d

end Cert.KernelIdeal.AR

end
-- ==== Proof.Mixed.lean ====
/-
# The parts that load, store and wait for the barrier
-/
module

public import proofs.«01_k».proof.Proof.Steps

@[expose] public section

set_option maxRecDepth 16384
set_option maxHeartbeats 2000000

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ) (d : Dev nD)

/-- The devices other than `d`. -/
abbrev EX : Finset (Dev nD) := Finset.univ.erase d

/-- A whole buffer of device `d`. -/
abbrev bPts (b : Ref sig .tc) (f : b.ty.Contents (Elt F)) : sProp 𝕄 := (((d : Dev nD) : Thread nD τ).loc b) ↦{fullShare} f

theorem wbind {α β : Type} {Q : β → sProp 𝕄} {p : Prog (TpuEff nD τ sig (Elt F) Λ₀ .tc) α} {k : α → Prog (TpuEff nD τ sig (Elt F) Λ₀ .tc) β} :
    WP d p (fun a => WP d (k a) Q) ⊢ WP d (p >>= k) Q := Entails.of_eq (wp_bind ..).symm

theorem dev_step {α : Type} {Q : α → sProp 𝕄} {k : Dev nD → Prog (TpuEff nD τ sig (Elt F) Λ₀ .tc) α} {X : sProp 𝕄}
    (hk : X ⊢ WP d (k d) Q) : X ⊢ WP d (Prog.lift .deviceId >>= k) Q := by
  refine BIBase.Entails.trans hk (Entails.of_eq ?_)
  exact (wp_deviceId ..).symm

theorem ld {α : Type} {Q : α → sProp 𝕄} {s : Shape} {e : EltTy} {cs : CoreSpace} {mr : Memref sig .tc cs s e} {r : LoadRect s} {hl : mr.view.LoadsAt r}
    {k : (r.shape.Idx → Elt F e) → Prog (TpuEff nD τ sig (Elt F) Λ₀ .tc) α}
    {S : Finset (Idx (mr.view.loc (d : Thread nD τ)))} {q : PosShare TreeShare} {f : Buf (Elt F) (mr.view.loc (d : Thread nD τ))}
    (hS : mr.view.setOn r.set ⊆ S) :
    (mr.view.loc (d : Thread nD τ) ↦[S]{q} f : sProp 𝕄)
      ⊢ iprop(((mr.view.loc (d : Thread nD τ) ↦[S]{q} f) -∗ WP d (k (mr.view.readAt (Elt F) r f)) Q)
        -∗ WP d (Prog.lift (.load mr r hl) >>= k) Q) :=
  wp_load 𝒱₀ (d : Thread nD τ) none Set.univ hS

theorem st {α : Type} {Q : α → sProp 𝕄} {s : Shape} {e : EltTy} {cs : CoreSpace} {mr : Memref sig .tc cs s e} {r : Rect s} {w : r.shape.Idx → Elt F e}
    {Mk : Finset r.shape.Idx} {hx : (mr.access r).Stores Mk} {hm : Mk = Finset.univ ∨ ∀ a, r.stride a = 1}
    {k : PUnit → Prog (TpuEff nD τ sig (Elt F) Λ₀ .tc) α}
    {S : Finset (Idx ((mr.access r).loc (d : Thread nD τ)))} {f : Buf (Elt F) ((mr.access r).loc (d : Thread nD τ))}
    (hS : (mr.access r).setOn Mk ⊆ S) :
    ((mr.access r).loc (d : Thread nD τ) ↦[S]{fullShare} f : sProp 𝕄)
      ⊢ iprop((((mr.access r).loc (d : Thread nD τ) ↦[S]{fullShare} ((mr.access r).write (Elt F) f w Mk)) -∗ WP d (k ⟨⟩) Q)
        -∗ WP d (Prog.lift (.store mr r w Mk hx hm) >>= k) Q) :=
  wp_store 𝒱₀ (d : Thread nD τ) none Set.univ hS

theorem rt {α : Type} {Q : α → sProp 𝕄} {v : α} : Q v ⊢ WP d (pure v) Q := by
  unfold WP; rw [Prog.pure_eq_ret, wp_ret]; exact fupd_intro

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
theorem read_x (f : (cc0_stg0_0 : Ref sig .tc).ty.Contents (Elt F)) :
    (xM).view.readAt (Elt F) (Rect.unit (s := S512x256) ![0, 0] S512x256.size inb_S512x256_S512x256_0_0).toLoadRect f = f :=
  Memref.readAt_unit_zero (Elt F) cc0_stg0_0 hz2 _ f
omit [FloatOps F] in
theorem read_rw (f : (cc0_stg1_0 : Ref sig .tc).ty.Contents (Elt F)) :
    (rwM).view.readAt (Elt F) (Rect.unit (s := S256x128) ![0, 0] S256x128.size inb_S256x128_S256x128_0_0).toLoadRect f = f :=
  Memref.readAt_unit_zero (Elt F) cc0_stg1_0 hz2 _ f
omit [FloatOps F] in
theorem read_ri (f : (cc0_stg2_0 : Ref sig .tc).ty.Contents (Elt F)) :
    (riM).view.readAt (Elt F) (Rect.unit (s := S512x1) ![0, 0] S512x1.size inb_S512x1_S512x1_0_0).toLoadRect f = f :=
  Memref.readAt_unit_zero (Elt F) cc0_stg2_0 hz2 _ f
omit [FloatOps F] in
theorem read_sw (f : (cc0_stg4_0 : Ref sig .tc).ty.Contents (Elt F)) :
    (swM).view.readAt (Elt F) (Rect.unit (s := S256x512) ![0, 0] S256x512.size inb_S256x512_S256x512_0_0).toLoadRect f = f :=
  Memref.readAt_unit_zero (Elt F) cc0_stg4_0 hz2 _ f
omit [FloatOps F] in
theorem read_rs (f : (cc0_scratch1 : Ref sig .tc).ty.Contents (Elt F)) :
    (rsM).view.readAt (Elt F) (Rect.unit (s := S32x16x512) ![0, 0, 0] S32x16x512.size inb_S32x16x512_S32x16x512_0_0_0).toLoadRect f = f :=
  Memref.readAt_unit_zero (Elt F) cc0_scratch1 hz3 _ f
omit [FloatOps F] in
theorem read_ag (f : (cc0_scratch2 : Ref sig .tc).ty.Contents (Elt F)) :
    (agM).view.readAt (Elt F) (Rect.unit (s := S32x16x512) ![0, 0, 0] S32x16x512.size inb_S32x16x512_S32x16x512_0_0_0).toLoadRect f = f :=
  Memref.readAt_unit_zero (Elt F) cc0_scratch2 hz3 _ f
omit [FloatOps F] in
theorem write_acc (f w : (cc0_scratch0 : Ref sig .tc).ty.Contents (Elt F)) :
    ((accM).access (Rect.unit (s := S512x512) ![0, 0] S512x512.size inb_S512x512_S512x512_0_0) : View sig .tc _ _ _).write (Elt F) f w Finset.univ = w :=
  Memref.write_access_unit_zero_univ (Elt F) cc0_scratch0 hz2 _ f w
omit [FloatOps F] in
theorem write_o (f w : (cc0_stg5_0 : Ref sig .tc).ty.Contents (Elt F)) :
    ((oM).access (Rect.unit (s := S512x512) ![0, 0] S512x512.size inb_S512x512_S512x512_0_0) : View sig .tc _ _ _).write (Elt F) f w Finset.univ = w :=
  Memref.write_access_unit_zero_univ (Elt F) cc0_stg5_0 hz2 _ f w

omit [FloatOps F] in
theorem bigSep_own (f : Dev nD → sProp 𝕄) : bigSep Finset.univ f = iprop(f d ∗ bigSep (EX d) f) := bigSep_erase (Finset.mem_univ d)
omit [FloatOps F] in
theorem bigSep_two {S : Finset (Dev nD)} (f g : Dev nD → sProp 𝕄) : bigSep S (fun c => iprop(f c ∗ g c)) = iprop(bigSep S f ∗ bigSep S g) := bigSep_sep' ..
/-! ## The first part, and the barrier wait with the first loads -/

theorem part1 {Q : (Σ' (_ : Dev nD) (_ : BitVec 32), Sems sig S_) → sProp 𝕄} :
    iprop(ctx m K ∗ sigS (F := F) d 0 ∗ (sigS (F := F) d 8 -∗ Q ⟨d, posW d, (SemArray.scalar (sig.barrier 0 rfl))⟩)) ⊢ WP d (k0_part1 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6) Q := by
  rw [k0_part1_eq_skeleton]; unfold k0_part1_skel
  refine dev_step d ?_
  iterate 8 refine sig_step m K d (by decide) (by generalize d = e; revert e; decide +kernel) (by decide +kernel) ?_
  exact part_end m K d

/-- What the barrier wait and the loads of the first three arguments hold on to. -/
def st4 : sProp 𝕄 := iprop(bPts d cc0_stg0_0 (xst m d) ∗ bPts d cc0_stg1_0 (rwst m d) ∗ bPts d cc0_stg2_0 (rist m d))

theorem part4 {Q : (Σ' (v101 : FVec F S512x256 .bf16) (v115 : IVec S512x1 32) (v122 : FVec F S512x1 .f32) (v123 : FVec F S512x512 .f32), BitVec 32) → sProp 𝕄} :
    iprop(ctx m K ∗ sigS (F := F) d 28 ∗ (cred (tallyAt (barCell d) () 31) ∗ atPos ER (barCell d) 0 ∅ 0 ∗ st4 m d)
      ∗ ((ow d (OR d (EX d)) ∗ semVal (barCell d) 0 ∗ bigSep (EX d) (fun c => barPay (F := F) d c) ∗ st4 m d) -∗ Q ⟨k0_pay2 (xst m d), k0_pay3 (F := F) (rist m d), k0_pay4 (xst m d) (rwst m d) (rist m d), k0_pay5 (F := F), Scalar.muli (posW d) 4#32⟩))
      ⊢ WP d (k0_part4 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) (SemArray.scalar (sig.barrier 0 rfl))) Q := by
  rw [k0_part4_eq_skeleton]; unfold k0_part4_skel
  iterate 4 refine sig_step m K d (by decide) (by generalize d = e; revert e; decide +kernel) (by decide +kernel) ?_
  unfold sigS ctx st4 ow OB
  rw [rem_last, tallies_empty, add_zero]
  iintro ⟨⟨#HR, #HL⟩, ⟨⟨%W, HO⟩, -⟩, ⟨Hcr, Hat, Hx, Hrw, Hri⟩, Hk⟩
  ihave Hcell := (records_at m K (d, none)) $$ HR
  icases Hcell with ⟨#HI, -⟩
  iapply (Rounds.wp_wait_rest_token 𝒱₀ ER (rd m) (d : Thread nD τ) none (sm := .reg barS) (κ := K (d, none))
      (wpE_semWait_eq 𝒱₀ (d : Thread nD τ) none Set.univ) (Set.mem_univ _) () (O := OR d (EX d)) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_bar d); iexact HL
    iexact Hat
  iintro ⟨HO, Hat, -, Hpay⟩
  ihave Hp := (Entails.of_eq (rest_bar m d)) $$ Hpay
  imod (Rounds.cell_close ER (rd m) (Set.mem_univ (K (d, none))) (fun h => h) (R := 0 + 1) (duties_later m (barCell d))) $$ [Hat] with Hz
  · isplitr; · iexact HI
    iexact Hat
  iapply (ld d (mr := xM) (Finset.subset_univ _)) $$ Hx; iintro Hx
  iapply (ld d (mr := rwM) (Finset.subset_univ _)) $$ Hrw; iintro Hrw
  iapply (ld d (mr := riM) (Finset.subset_univ _)) $$ Hri; iintro Hri
  rw [read_x, read_rw, read_ri]
  iapply (rt d)
  iapply Hk
  isplitl [HO]; · iexists _; iexact HO
  isplitl [Hz]; · iexact Hz
  isplitl [Hp]; · iexact Hp
  isplitl [Hx]; · iexact Hx
  isplitl [Hrw] <;> iassumption

theorem part5 {Q : (Σ' (v159 : FVec F S512x512 .f32), IVec S512x1 32) → sProp 𝕄} (v101 : FVec F S512x256 .bf16) (v115 : IVec S512x1 32) (v122 : FVec F S512x1 .f32) (v123 : FVec F S512x512 .f32) (v124 : BitVec 32) :
    iprop(bPts d cc0_stg3_0 (ewst m d) ∗ (bPts d cc0_stg3_0 (ewst m d) -∗ Q ⟨k0_pay6 (posW d) v101 v115 v122 v123 v124 (ewRow0 m d) (ewRow1 m d) (ewRow2 m d), k0_pay7 (posW d)⟩))
      ⊢ WP d (k0_part5 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 (posW d) v101 v115 v122 v123 v124) Q := by
  rw [k0_part5_eq_skeleton]; unfold k0_part5_skel
  iintro ⟨Hx, Hk⟩
  iapply (ld d (mr := ewM) (Finset.subset_univ _)) $$ Hx; iintro Hx
  iapply (ld d (mr := ewM) (Finset.subset_univ _)) $$ Hx; iintro Hx
  iapply (ld d (mr := ewM) (Finset.subset_univ _)) $$ Hx; iintro Hx
  unfold ewRow0 ewRow1 ewRow2
  iapply (rt d)
  iapply Hk
  iexact Hx

/-! ## The partial result and the first transfers -/

/-- What a reduce-scatter transfer to `c` takes besides the chunk it sends. -/
def rsJ (c : Dev nD) : sProp 𝕄 :=
  iprop(dutyTok ER (xCell 0 d c) 0 c ∗ dutyTok ER (xCell 1 c d) 0 d ∗ ∃ f, rsPts (F := F) c d f)
/-- The same of an all-gather transfer. -/
def agJ (c : Dev nD) : sProp 𝕄 :=
  iprop(dutyTok ER (xCell 2 d c) 0 c ∗ dutyTok ER (xCell 3 c d) 0 d ∗ ∃ f, agPts (F := F) c d f)

theorem rsI_one (c : Dev nD) : iprop(rsJ (F := F) d c ∗ accPts d c (acc m d)) ⊢ rsI m d c := by
  unfold rsJ rsI
  iintro ⟨⟨H1, H2, H3⟩, H4⟩
  isplitl [H1]; · iexact H1
  isplitl [H2]; · iexact H2
  isplitl [H4] <;> iassumption
theorem rsI_of (S : Finset (Dev nD)) : iprop(bigSep S (rsJ (F := F) d) ∗ bigSep S (fun c => accPts d c (acc m d))) ⊢ bigSep S (rsI m d) := by
  rw [← bigSep_two]
  exact bigSep_mono fun c _ => rsI_one m d c
theorem agI_one (c : Dev nD) : iprop(agJ (F := F) d c ∗ agShare d c (agAll m)) ⊢ agI m d c := by
  unfold agJ agI
  iintro ⟨⟨H1, H2, H3⟩, H4⟩
  isplitl [H1]; · iexact H1
  isplitl [H2]; · iexact H2
  isplitl [H4] <;> iassumption
theorem agI_of (S : Finset (Dev nD)) : iprop(bigSep S (agJ (F := F) d) ∗ bigSep S (fun c => agShare d c (agAll m))) ⊢ bigSep S (agI m d) := by
  rw [← bigSep_two]
  exact bigSep_mono fun c _ => agI_one m d c

/-- The store of the partial result, its chunks parted, the transfers ready. -/
theorem acc_ready : iprop(ow (F := F) d (OR d (EX d)) ∗ bigSep (EX d) (rsJ (F := F) d) ∗ bPts d cc0_scratch0 (acc m d)) ⊢ iprop(rsP m d 0 ∗ accPts d d (acc m d)) := by
  rw [show (bPts d cc0_scratch0 (acc m d) : sProp 𝕄) = _ from acc_split d (acc m d), bigSep_own d]
  unfold rsP
  rw [rem_zero, fin_zero, bigSep_empty]
  iintro ⟨HO, HJ, Hd, Ha⟩
  isplitr [Hd]
  · isplitl [HO]; · iexact HO
    isplitl [HJ Ha]
    · iapply (rsI_of m d (EX d)); isplitl [HJ] <;> iassumption
    iempintro
  iexact Hd

theorem resume {α : Type} {Q : α → sProp 𝕄} {p : Prog (TpuEff nD τ sig (Elt F) Λ₀ .tc) α} {X : sProp 𝕄} (h : X ⊢ WP d p Q) : X ⊢ WP d p Q := h

theorem part6 {Q : BitVec 32 → sProp 𝕄} :
    iprop(ctx m K ∗ ow d (OR d (EX d)) ∗ bigSep (EX d) (rsJ (F := F) d) ∗ bPts d cc0_stg3_0 (ewst m d) ∗ (∃ f, bPts (F := F) d cc0_scratch0 f)
      ∗ (∀ r, (rsP m d 6 ∗ accPts d d (acc m d) ∗ bPts d cc0_stg3_0 (ewst m d)) -∗ Q r))
      ⊢ WP d (k0_part6 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) (k0_pay2 (xst m d)) (k0_pay3 (F := F) (rist m d)) (k0_pay4 (xst m d) (rwst m d) (rist m d))
          (k0_pay6 (posW d) (k0_pay2 (xst m d)) (k0_pay3 (F := F) (rist m d)) (k0_pay4 (xst m d) (rwst m d) (rist m d)) (k0_pay5 (F := F)) (Scalar.muli (posW d) 4#32)
            (ewRow0 m d) (ewRow1 m d) (ewRow2 m d))
          (k0_pay7 (posW d))) Q := by
  rw [k0_part6_eq_skeleton]; unfold k0_part6_skel
  iintro ⟨#HC, HO, HJ, Hew, ⟨%f, Ha⟩, Hk⟩
  iapply (ld d (mr := ewM) (Finset.subset_univ _)) $$ Hew; iintro Hew
  iapply (ld d (mr := accM) (Finset.subset_univ _)) $$ Ha; iintro Ha
  iapply (st d (mr := accM) (r := Rect.unit (s := S512x512) ![0, 0] S512x512.size inb_S512x512_S512x512_0_0) (Finset.subset_univ _)) $$ Ha; iintro Ha
  rw [write_acc]
  ihave Hp := (acc_ready m d) $$ [HO HJ Ha]
  · isplitl [HO]; · iexact HO
    isplitl [HJ]; · iexact HJ
    iexact Ha
  icases Hp with ⟨Hp, Hd⟩
  iapply (resume d (X := iprop(ctx m K ∗ rsP m d 0 ∗ ((accPts d d (acc m d) ∗ bPts d cc0_stg3_0 (ewst m d))
      ∗ (∀ r, (rsP m d 6 ∗ accPts d d (acc m d) ∗ bPts d cc0_stg3_0 (ewst m d)) -∗ Q r)))) ?_)
  rotate_left
  · isplitr; · iexact HC
    isplitl [Hp]; · iexact Hp
    isplitr [Hk]
    · isplitl [Hd] <;> iassumption
    iexact Hk
  iterate 6 refine rs_step m K d (by decide) (by generalize d = e; revert e; decide +kernel) (by decide +kernel) (by exact fun h => rfl) (by exact fun h => rsS_at d ClosedOff.eq _) (by decide +kernel) (by exact fun h => sem_at d 1 ClosedOff.eq _) ?_
  iintro ⟨-, Hp, ⟨Hd, Hew⟩, Hk⟩
  iapply (rt d)
  iapply Hk
  isplitl [Hp]; · iexact Hp
  isplitl [Hd] <;> iassumption

/-! ## The own chunk and the own slots -/

omit [FloatOps F] in
theorem setOn_sub (b : Ref sig .tc) (S : Finset b.ty.shape.Idx) : (View.whole b : View sig .tc _ _ _).setOn S ⊆ S := fun i hi => by
  obtain ⟨j, hj, rfl⟩ := Finset.mem_map.1 hi
  exact hj

theorem ld_acc {α : Type} {Q : α → sProp 𝕄} {off : Fin 2 → Nat} (ho : off = ![16 * d.val, 0]) {inb : ∀ a, off a + S16x512.size a ≤ S512x512.size a}
    {hl : (accM).view.LoadsAt (Rect.unit (s := S512x512) off S16x512.size inb).toLoadRect}
    {k : (S16x512.Idx → Elt F .bf16) → Prog (TpuEff nD τ sig (Elt F) Λ₀ .tc) α} (f : (cc0_scratch0 : Ref sig .tc).ty.Contents (Elt F)) :
    accPts d d f ⊢ iprop((accPts d d f -∗ WP d (k ((accM).view.readAt (Elt F) (chunkR d).toLoadRect f)) Q)
        -∗ WP d (Prog.lift (.load accM (Rect.unit (s := S512x512) off S16x512.size inb).toLoadRect hl) >>= k) Q) := by
  subst ho
  exact ld d (mr := accM) (S := (accC d).view.set) (by rw [accC_set]; exact setOn_sub _ _)

theorem ld_rs {α : Type} {Q : α → sProp 𝕄} {off : Fin 3 → Nat} (ho : off = ![d.val, 0, 0]) {inb : ∀ a, off a + S1x16x512.size a ≤ S32x16x512.size a}
    {hl : (rsM).view.LoadsAt (Rect.unit (s := S32x16x512) off S1x16x512.size inb).toLoadRect}
    {k : (S1x16x512.Idx → Elt F .bf16) → Prog (TpuEff nD τ sig (Elt F) Λ₀ .tc) α} (f : (cc0_scratch1 : Ref sig .tc).ty.Contents (Elt F)) :
    rsPts d d f ⊢ iprop((rsPts d d f -∗ WP d (k ((rsM).view.readAt (Elt F) (slotR d).toLoadRect f)) Q)
        -∗ WP d (Prog.lift (.load rsM (Rect.unit (s := S32x16x512) off S1x16x512.size inb).toLoadRect hl) >>= k) Q) := by
  subst ho
  exact ld d (mr := rsM) (S := (rsS d).view.set) (by rw [rsS_set]; exact setOn_sub _ _)

theorem ld_ag {α : Type} {Q : α → sProp 𝕄} {off : Fin 3 → Nat} (ho : off = ![d.val, 0, 0]) {inb : ∀ a, off a + S1x16x512.size a ≤ S32x16x512.size a}
    {hl : (agM).view.LoadsAt (Rect.unit (s := S32x16x512) off S1x16x512.size inb).toLoadRect}
    {k : (S1x16x512.Idx → Elt F .bf16) → Prog (TpuEff nD τ sig (Elt F) Λ₀ .tc) α} (f : (cc0_scratch2 : Ref sig .tc).ty.Contents (Elt F)) :
    agPts d d f ⊢ iprop((agPts d d f -∗ WP d (k ((agM).view.readAt (Elt F) (slotR d).toLoadRect f)) Q)
        -∗ WP d (Prog.lift (.load agM (Rect.unit (s := S32x16x512) off S1x16x512.size inb).toLoadRect hl) >>= k) Q) := by
  subst ho
  exact ld d (mr := agM) (S := (agS d).view.set) (by rw [agS_set]; exact setOn_sub _ _)

theorem st_rs {α : Type} {Q : α → sProp 𝕄} {off : Fin 3 → Nat} (ho : off = ![d.val, 0, 0]) {inb : ∀ a, off a + S1x16x512.size a ≤ S32x16x512.size a}
    {hx : ((rsM).access (Rect.unit (s := S32x16x512) off S1x16x512.size inb)).Stores Finset.univ} {hm}
    {k : PUnit → Prog (TpuEff nD τ sig (Elt F) Λ₀ .tc) α} (f : (cc0_scratch1 : Ref sig .tc).ty.Contents (Elt F)) :
    rsPts d d f ⊢ iprop((rsPts d d (rsAll m d) -∗ WP d (k ⟨⟩) Q)
        -∗ WP d (Prog.lift (.store rsM (Rect.unit (s := S32x16x512) off S1x16x512.size inb) (k0_pay10 ((accM).view.readAt (Elt F) (chunkR d).toLoadRect (acc m d))) Finset.univ hx hm) >>= k) Q) := by
  subst ho
  rw [← rs_stored m d f]
  exact st d (mr := rsM) (r := slotR d) (S := (rsS d).view.set) (f := f) (by rw [rsS_set]; exact subset_of_eq (View.set_slice_whole _ _))

theorem st_ag {α : Type} {Q : α → sProp 𝕄} {off : Fin 3 → Nat} (ho : off = ![d.val, 0, 0]) {inb : ∀ a, off a + S1x16x512.size a ≤ S32x16x512.size a}
    {hx : ((agM).access (Rect.unit (s := S32x16x512) off S1x16x512.size inb)).Stores Finset.univ} {hm}
    {k : PUnit → Prog (TpuEff nD τ sig (Elt F) Λ₀ .tc) α} (f : (cc0_scratch2 : Ref sig .tc).ty.Contents (Elt F)) :
    agPts d d f ⊢ iprop((agPts d d (agAll m) -∗ WP d (k ⟨⟩) Q)
        -∗ WP d (Prog.lift (.store agM (Rect.unit (s := S32x16x512) off S1x16x512.size inb) (k0_pay11 (rsAll m d)) Finset.univ hx hm) >>= k) Q) := by
  subst ho
  rw [← ag_stored m d f]
  exact st d (mr := agM) (r := slotR d) (S := (agS d).view.set) (f := f) (by rw [agS_set]; exact subset_of_eq (View.set_slice_whole _ _))

/-! ## From the reduce-scatter to its waits -/

theorem rs_to_wt : iprop(rsP m d 32 ∗ bigSep (EX d) (wtI (F := F) d 1)) ⊢ iprop(wtS m d 1 (OA d (EX d)) 0 ∗ bigSep (EX d) (crI (F := F) d 0)) := by
  unfold rsP wtS OR
  rw [rem_last, tallies_empty, add_zero, fin_zero, rem_zero, fin_last, bigSep_empty, bigSep_empty]
  iintro ⟨⟨HO, -, Hcr⟩, Hw⟩
  isplitr [Hcr]
  · isplitl [HO]; · iexact HO
    isplitl [Hw]; · iexact Hw
    iempintro
  iexact Hcr

theorem part9 {Q : (Σ' (v274 : FVec F S512x512 .f32), BitVec 1) → sProp 𝕄} (v : BitVec 32) :
    iprop(ctx m K ∗ rsP m d 26 ∗ (accPts d d (acc m d) ∗ (∃ f, rsPts (F := F) d d f) ∗ bPts d cc0_stg4_0 (swst m d) ∗ bigSep (EX d) (wtI (F := F) d 1)
      ∗ ((wtS m d 1 (OA d (EX d)) 1 ∗ bigSep (EX d) (crI (F := F) d 0) ∗ accPts d d (acc m d) ∗ rsPts d d (rsAll m d) ∗ bPts d cc0_stg4_0 (swst m d))
          -∗ Q ⟨k0_pay9 (k0_pay2 (xst m d)) (swst m d), Scalar.cmpi .ne (posW d) 1#32⟩)))
      ⊢ WP d (k0_part9 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) (k0_pay2 (xst m d)) v) Q := by
  rw [k0_part9_eq_skeleton]; unfold k0_part9_skel
  iterate 6 refine rs_step m K d (by decide) (by generalize d = e; revert e; decide +kernel) (by decide +kernel) (by exact fun h => rfl) (by exact fun h => rsS_at d ClosedOff.eq _) (by decide +kernel) (by exact fun h => sem_at d 1 ClosedOff.eq _) ?_
  iintro ⟨#HC, Hp, Hd, ⟨%f, Hs⟩, Hsw, Hw, Hk⟩
  iapply (ld d (mr := swM) (Finset.subset_univ _)) $$ Hsw; iintro Hsw
  rw [read_sw]
  iapply (ld_acc d (k0_off65_eq d)) $$ Hd; iintro Hd
  iapply (ld_rs d (k0_off66_eq d)) $$ Hs; iintro Hs
  iapply (st_rs m d (k0_off66_eq d)) $$ Hs; iintro Hs
  ihave Hp := (rs_to_wt m d) $$ [Hp Hw]
  · isplitl [Hp] <;> iassumption
  icases Hp with ⟨Hp, Hcr⟩
  iapply (resume d (X := iprop(ctx m K ∗ wtS m d 1 (OA d (EX d)) 0 ∗ ((bigSep (EX d) (crI (F := F) d 0) ∗ accPts d d (acc m d) ∗ rsPts d d (rsAll m d) ∗ bPts d cc0_stg4_0 (swst m d))
      ∗ ((wtS m d 1 (OA d (EX d)) 1 ∗ bigSep (EX d) (crI (F := F) d 0) ∗ accPts d d (acc m d) ∗ rsPts d d (rsAll m d) ∗ bPts d cc0_stg4_0 (swst m d))
          -∗ Q ⟨k0_pay9 (k0_pay2 (xst m d)) (swst m d), Scalar.cmpi .ne (posW d) 1#32⟩)))) ?_)
  rotate_left
  · isplitr; · iexact HC
    isplitl [Hp]; · iexact Hp
    isplitr [Hk]
    · isplitl [Hcr]; · iexact Hcr
      isplitl [Hd]; · iexact Hd
      isplitl [Hs] <;> iassumption
    iexact Hk
  refine wt_step m K d 1 (fun c => mayWait_rs d c) (by decide) (by generalize d = e; revert e; decide +kernel) (by decide +kernel) (by exact fun h => rfl) ?_
  iintro ⟨-, Hp, HR, Hk⟩
  iapply (rt d)
  iapply Hk
  isplitl [Hp] <;> iassumption

/-! ## The sum and the gather's first transfers -/

/-- The landing slots, all landed, are the landing buffer. -/
theorem rs_join : iprop(wtS m d 1 (OA d (EX d)) 32 ∗ rsPts d d (rsAll m d))
    ⊢ iprop(ow (F := F) d (OA d (EX d)) ∗ bPts d cc0_scratch1 (rsAll m d) ∗ bigSep (EX d) (fun c => semVal (xCell 1 d c) 0)) := by
  rw [show (bPts d cc0_scratch1 (rsAll m d) : sProp 𝕄) = _ from rs_split d (rsAll m d), bigSep_own d]
  unfold wtS
  rw [rem_last, fin_last, bigSep_empty, show wtF m d 1 = fun c => iprop(rsPts d c (rsAll m d) ∗ semVal (xCell 1 d c) 0) from rfl, bigSep_two]
  iintro ⟨⟨HO, -, Hr, Hz⟩, Hd⟩
  isplitl [HO]; · iexact HO
  isplitl [Hd Hr]
  · isplitl [Hd] <;> iassumption
  iexact Hz

theorem ag_ready : iprop(ow (F := F) d (OA d (EX d)) ∗ bigSep (EX d) (agJ (F := F) d) ∗ agPts d d (agAll m)) ⊢ agP m d 0 := by
  rw [ag_deal d (agAll m)]
  unfold agP
  rw [rem_zero, fin_zero, bigSep_empty]
  iintro ⟨HO, HJ, Ha⟩
  isplitl [HO]; · iexact HO
  isplitl [HJ Ha]
  · iapply (agI_of m d (EX d)); isplitl [HJ] <;> iassumption
  iempintro

theorem part13 {Q : (Σ' (v407 : BitVec 32), BitVec 32) → sProp 𝕄} :
    iprop(ctx m K ∗ wtS m d 1 (OA d (EX d)) 31 ∗ (rsPts d d (rsAll m d) ∗ (∃ f, agPts (F := F) d d f) ∗ bigSep (EX d) (agJ (F := F) d)
      ∗ (∀ r, (agP m d 6 ∗ bPts d cc0_scratch1 (rsAll m d) ∗ bigSep (EX d) (fun c => semVal (xCell 1 d c) 0)) -∗ Q r)))
      ⊢ WP d (k0_part13 xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6 d (posW d) (Scalar.cmpi .ne (posW d) 31#32)) Q := by
  rw [k0_part13_eq_skeleton]; unfold k0_part13_skel
  refine wt_step m K d 1 (fun c => mayWait_rs d c) (by decide) (by generalize d = e; revert e; decide +kernel) (by decide +kernel) (by exact fun h => rfl) ?_
  iintro ⟨#HC, Hp, Hd, ⟨%f, Hs⟩, HJ, Hk⟩
  ihave Hp := (rs_join m d) $$ [Hp Hd]
  · isplitl [Hp] <;> iassumption
  icases Hp with ⟨HO, Hr, Hz⟩
  iapply (ld d (mr := rsM) (Finset.subset_univ _)) $$ Hr; iintro Hr
  rw [read_rs]
  iapply (ld_ag d (k0_off66_eq d)) $$ Hs; iintro Hs
  iapply (st_ag m d (k0_off66_eq d)) $$ Hs; iintro Hs
  ihave Hp := (ag_ready m d) $$ [HO HJ Hs]
  · isplitl [HO]; · iexact HO
    isplitl [HJ] <;> iassumption
  iapply (resume d (X := iprop(ctx m K ∗ agP m d 0 ∗ ((bPts d cc0_scratch1 (rsAll m d) ∗ bigSep (EX d) (fun c => semVal (xCell 1 d c) 0))
      ∗ (∀ r, (agP m d 6 ∗ bPts d cc0_scratch1 (rsAll m d) ∗ bigSep (EX d) (fun c => semVal (xCell 1 d c) 0)) -∗ Q r)))) ?_)
  rotate_left
  · isplitr; · iexact HC
    isplitl [Hp]; · iexact Hp
    isplitr [Hk]
    · isplitl [Hr] <;> iassumption
    iexact Hk
  iterate 6 refine ag_step m K d (by decide) (by generalize d = e; revert e; decide +kernel) (by decide +kernel) (by exact fun h => agS_at d ClosedOff.eq _) (by exact fun h => agS_at d ClosedOff.eq _) (by decide +kernel) (by exact fun h => sem_at d 3 ClosedOff.eq _) ?_
  iintro ⟨-, Hp, HR, Hk⟩
  iapply (rt d)
  iapply Hk
  isplitl [Hp] <;> iassumption

end Cert.KernelIdeal.AR

end
-- ==== Proof.Core.lean ====
/-
# The kernel's run on one device
-/
module

public import proofs.«01_k».proof.Proof.Parts1
public import proofs.«01_k».proof.Proof.Parts2
public import proofs.«01_k».proof.Proof.Parts3
public import proofs.«01_k».proof.Proof.Mixed

@[expose] public section

set_option maxRecDepth 16384
set_option maxHeartbeats 2000000

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ) (d : Dev nD)

/-- Device `d`'s positions on its slots of array `k`, but its own. -/
def atE (k : Fin 4) : sProp 𝕄 := bigSep (EX d) (fun c => atPos ER (xCell k d c) 0 ∅ 0)
/-- The same cells closed. -/
def zE (k : Fin 4) : sProp 𝕄 := bigSep (EX d) (fun c => semVal (xCell k d c) 0)

/-- The duties of one pair of transfers to `c`. -/
def tkX (c : Dev nD) : sProp 𝕄 :=
  iprop((dutyTok ER (xCell 0 d c) 0 c ∗ dutyTok ER (xCell 1 c d) 0 d) ∗ (dutyTok ER (xCell 2 d c) 0 c ∗ dutyTok ER (xCell 3 c d) 0 d))

omit [FloatOps F] in
theorem wt_zip (k : Fin 4) {S S' : Finset (Dev nD)} (h : S = EX d) (h' : S' = EX d) :
    iprop(bigSep S (crI (F := F) d k) ∗ atE d k) ⊢ bigSep S' (wtI (F := F) d k) := by
  subst h; rw [h']
  unfold atE; rw [← bigSep_two]; exact bigSep_mono fun c _ => by unfold wtI; exact Idealize.SL.BI.Entails.refl _

omit [FloatOps F] in
theorem pay_deal : iprop(bigSep (EX d) (tkX (F := F) d) ∗ bigSep (EX d) (fun c => barPay (F := F) d c))
    ⊢ iprop(bigSep (EX d) (rsJ (F := F) d) ∗ bigSep (EX d) (agJ (F := F) d)) := by
  have h (c : Dev nD) : iprop(tkX (F := F) d c ∗ barPay (F := F) d c) ⊢ iprop(rsJ (F := F) d c ∗ agJ (F := F) d c) := by
    unfold tkX barPay rsJ agJ
    iintro ⟨⟨⟨H1, H2⟩, H3, H4⟩, H5, H6⟩
    isplitl [H1 H2 H5]
    · isplitl [H1]; · iexact H1
      isplitl [H2] <;> iassumption
    · isplitl [H3]; · iexact H3
      isplitl [H4] <;> iassumption
  rw [← bigSep_two, ← bigSep_two]
  exact bigSep_mono fun c _ => h c

/-- The partial result's chunks, all back, are the partial result. -/
theorem acc_join : iprop(bigSep (fin d 32) (wtF m d 0) ∗ accPts d d (acc m d)) ⊢ iprop(bPts d cc0_scratch0 (acc m d) ∗ zE (F := F) d 0) := by
  rw [fin_last, show (bPts d cc0_scratch0 (acc m d) : sProp 𝕄) = _ from acc_split d (acc m d), bigSep_own d,
    show wtF m d 0 = fun c => iprop(accPts d c (acc m d) ∗ semVal (xCell 0 d c) 0) from rfl, bigSep_two]
  unfold zE
  iintro ⟨⟨Ha, Hz⟩, Hd⟩
  isplitr [Hz]
  · isplitl [Hd] <;> iassumption
  iexact Hz

/-- The gather's slots and shares, all back, are the gathered result. -/
theorem ag_join : iprop(bigSep (EX d) (wtF m d 3) ∗ wtS m d 2 0 32)
    ⊢ iprop(bPts d cc0_scratch2 (agAll m) ∗ zE (F := F) d 2 ∗ zE (F := F) d 3 ∗ ow (F := F) d 0) := by
  rw [show (bPts d cc0_scratch2 (agAll m) : sProp 𝕄) = _ from ag_split d (agAll m), bigSep_own d, ag_deal d (agAll m)]
  unfold wtS
  rw [rem_last, fin_last, bigSep_empty, show wtF m d 3 = fun c => iprop(agPts d c (agAll m) ∗ semVal (xCell 3 d c) 0) from rfl,
    show wtF m d 2 = fun c => iprop(agShare d c (agAll m) ∗ semVal (xCell 2 d c) 0) from rfl, bigSep_two, bigSep_two]
  unfold zE
  iintro ⟨⟨Ha, Hz3⟩, HO, -, Hs, Hz2⟩
  isplitl [Ha Hs]
  · isplitl [Hs] <;> iassumption
  isplitl [Hz2]; · iexact Hz2
  isplitl [Hz3] <;> iassumption

theorem send_to_wt (a b : Fin 4) : iprop(wtS m d a 0 32 ∗ bigSep (EX d) (wtI (F := F) d b)) ⊢ iprop(wtS m d b 0 0 ∗ bigSep (EX d) (wtF m d a)) := by
  unfold wtS
  rw [rem_last, fin_zero, rem_zero, fin_last, bigSep_empty, bigSep_empty]
  iintro ⟨⟨HO, -, Hf⟩, Hw⟩
  isplitr [Hf]
  · isplitl [HO]; · iexact HO
    isplitl [Hw]; · iexact Hw
    iempintro
  iexact Hf

/-- What the kernel starts from on device `d`, past the closing of its own slots' cells. -/
def pre : sProp 𝕄 :=
  iprop(sigS (F := F) d 0 ∗ (cred (tallyAt (barCell d) () 31) ∗ atPos ER (barCell d) 0 ∅ 0)
    ∗ (st4 m d ∗ bPts d cc0_stg3_0 (ewst m d) ∗ bPts d cc0_stg4_0 (swst m d) ∗ ∃ f, bPts (F := F) d cc0_stg5_0 f)
    ∗ ((∃ f, bPts (F := F) d cc0_scratch0 f) ∗ (∃ f, rsPts (F := F) d d f) ∗ (∃ f, agPts (F := F) d d f))
    ∗ bigSep (EX d) (tkX (F := F) d) ∗ (bigSep (EX d) (crI (F := F) d 1) ∗ bigSep (EX d) (crI (F := F) d 3))
    ∗ (atE (F := F) d 0 ∗ atE (F := F) d 1 ∗ atE (F := F) d 2 ∗ atE (F := F) d 3))

/-- What it leaves. -/
def post : sProp 𝕄 :=
  iprop((st4 m d ∗ bPts d cc0_stg3_0 (ewst m d) ∗ bPts d cc0_stg4_0 (swst m d) ∗ bPts d cc0_stg5_0 (out m d))
    ∗ (bPts d cc0_scratch0 (acc m d) ∗ bPts d cc0_scratch1 (rsAll m d) ∗ bPts d cc0_scratch2 (agAll m))
    ∗ semVal (barCell d) 0 ∗ (zE (F := F) d 0 ∗ zE (F := F) d 1 ∗ zE (F := F) d 2 ∗ zE (F := F) d 3) ∗ ow (F := F) d 0)

theorem core {Q : PUnit → sProp 𝕄} : iprop(ctx m K ∗ pre m d ∗ (post m d -∗ Q ⟨⟩)) ⊢ WP d (cc0_body xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6) Q := by
  rw [cc0_body_eq_skeleton]; unfold cc0_body_skel pre
  iintro ⟨#HC, ⟨HS, ⟨Hcb, Hab⟩, ⟨H4, Hew, Hsw, ⟨%fo, Ho⟩⟩, ⟨Hac, Hrd, Had⟩, Htk, ⟨Hc1, Hc3⟩, Ha0, Ha1, Ha2, Ha3⟩, Hk⟩
  iapply (wbind d)
  iapply (part1 m K d)
  isplitr; · iexact HC
  isplitl [HS]
  · iexact HS
  iintro HS
  try dsimp -zeta only
  iapply (wbind d)
  iapply (part2 m K d)
  isplitr; · iexact HC
  isplitl [HS]
  · iexact HS
  iintro %_ HS
  try dsimp -zeta only
  iapply (wbind d)
  iapply (part3 m K d)
  isplitr; · iexact HC
  isplitl [HS]
  · iexact HS
  iintro %_ HS
  try dsimp -zeta only
  iapply (wbind d)
  iapply (part4 m K d)
  isplitr; · iexact HC
  isplitl [HS]
  · iexact HS
  isplitl [Hcb Hab H4]
  · isplitl [Hcb]
    · iexact Hcb
    isplitl [Hab]
    · iexact Hab
    iexact H4
  iintro ⟨HO, Hzb, Hp, H4⟩
  try dsimp -zeta only
  ihave HJ := (pay_deal (F := F) d) $$ [Htk Hp]
  · isplitl [Htk] <;> iassumption
  icases HJ with ⟨HJ, HJ'⟩
  iapply (wbind d)
  iapply (part5 m d)
  isplitl [Hew]; · iexact Hew
  iintro Hew
  try dsimp -zeta only
  iapply (wbind d)
  iapply (part6 m K d)
  isplitr; · iexact HC
  isplitl [HO]
  · iexact HO
  isplitl [HJ]
  · iexact HJ
  isplitl [Hew]
  · iexact Hew
  isplitl [Hac]
  · iexact Hac
  iintro %v ⟨HS, Hac, Hew⟩
  try dsimp -zeta only
  iapply (wbind d)
  iapply (part7 m K d _)
  isplitr; · iexact HC
  isplitl [HS]
  · iexact HS
  iintro %v HS
  try dsimp -zeta only
  iapply (wbind d)
  iapply (part8 m K d _)
  isplitr; · iexact HC
  isplitl [HS]
  · iexact HS
  iintro %v HS
  try dsimp -zeta only
  ihave Hw := (wt_zip (F := F) d 1 rfl rfl) $$ [Hc1 Ha1]
  · isplitl [Hc1] <;> iassumption
  iapply (wbind d)
  iapply (part9 m K d _)
  isplitr; · iexact HC
  isplitl [HS]
  · iexact HS
  isplitl [Hac]
  · iexact Hac
  isplitl [Hrd]
  · iexact Hrd
  isplitl [Hsw]
  · iexact Hsw
  isplitl [Hw]
  · iexact Hw
  iintro ⟨HS, Hc0, Hac, Hrd, Hsw⟩
  try dsimp -zeta only
  iapply (wbind d)
  iapply (part10 m K d)
  isplitr; · iexact HC
  isplitl [HS]
  · iexact HS
  iintro HS
  try dsimp -zeta only
  iapply (wbind d)
  iapply (part11 m K d)
  isplitr; · iexact HC
  isplitl [HS]
  · iexact HS
  iintro HS
  try dsimp -zeta only
  iapply (wbind d)
  iapply (part12 m K d)
  isplitr; · iexact HC
  isplitl [HS]
  · iexact HS
  iintro HS
  try dsimp -zeta only
  iapply (wbind d)
  iapply (part13 m K d)
  isplitr; · iexact HC
  isplitl [HS]
  · iexact HS
  isplitl [Hrd]
  · iexact Hrd
  isplitl [Had]
  · iexact Had
  isplitl [HJ']
  · iexact HJ'
  iintro %v ⟨HS, Hrs, Hz1⟩; obtain ⟨v, w⟩ := v
  try dsimp -zeta only
  iapply (wbind d)
  iapply (part14 m K d _ _)
  isplitr; · iexact HC
  isplitl [HS]
  · iexact HS
  iintro %v HS; obtain ⟨v, w⟩ := v
  try dsimp -zeta only
  iapply (wbind d)
  iapply (part15 m K d _ _)
  isplitr; · iexact HC
  isplitl [HS]
  · iexact HS
  iintro %v HS; obtain ⟨v, w⟩ := v
  try dsimp -zeta only
  ihave Hw := (wt_zip (F := F) d 0 rfl (rem_zero d)) $$ [Hc0 Ha0]
  · isplitl [Hc0] <;> iassumption
  iapply (wbind d)
  iapply (part16 m K d _ _)
  isplitr; · iexact HC
  isplitl [HS]
  · iexact HS
  isplitl [Hw]
  · iexact Hw
  iintro %v ⟨HS, Hc2⟩; obtain ⟨v, w⟩ := v
  try dsimp -zeta only
  iapply (wbind d)
  iapply (part17 m K d _ _)
  isplitr; · iexact HC
  isplitl [HS]
  · iexact HS
  iintro %v HS; obtain ⟨v, w⟩ := v
  try dsimp -zeta only
  iapply (wbind d)
  iapply (part18 m K d _ _)
  isplitr; · iexact HC
  isplitl [HS]
  · iexact HS
  iintro %v HS; obtain ⟨v, w⟩ := v
  try dsimp -zeta only
  ihave Hw := (wt_zip (F := F) d 3 rfl (rem_zero d)) $$ [Hc3 Ha3]
  · isplitl [Hc3] <;> iassumption
  iapply (wbind d)
  iapply (part19 m K d _ _)
  isplitr; · iexact HC
  isplitl [HS]
  · iexact HS
  isplitl [Hw]
  · iexact Hw
  iintro ⟨HS, Hf0⟩
  try dsimp -zeta only
  iapply (wbind d)
  iapply (part20 m K d)
  isplitr; · iexact HC
  isplitl [HS]
  · iexact HS
  iintro HS
  try dsimp -zeta only
  iapply (wbind d)
  iapply (part21 m K d)
  isplitr; · iexact HC
  isplitl [HS]
  · iexact HS
  iintro HS
  try dsimp -zeta only
  iapply (wbind d)
  iapply (part22 m K d)
  isplitr; · iexact HC
  isplitl [HS]
  · iexact HS
  iintro HS
  try dsimp -zeta only
  ihave Hw := (wt_zip (F := F) d 2 (fin_last d) rfl) $$ [Hc2 Ha2]
  · isplitl [Hc2] <;> iassumption
  ihave HS := (send_to_wt m d 3 2) $$ [HS Hw]
  · isplitl [HS] <;> iassumption
  icases HS with ⟨HS, Hf3⟩
  iapply (wbind d)
  iapply (part23 m K d _ _)
  isplitr; · iexact HC
  isplitl [HS]
  · iexact HS
  iintro %v HS; obtain ⟨v, w⟩ := v
  try dsimp -zeta only
  iapply (wbind d)
  iapply (part24 m K d _ _)
  isplitr; · iexact HC
  isplitl [HS]
  · iexact HS
  iintro %v HS; obtain ⟨v, w⟩ := v
  try dsimp -zeta only
  iapply (wbind d)
  iapply (part25 m K d _ _)
  isplitr; · iexact HC
  isplitl [HS]
  · iexact HS
  iintro %v HS; obtain ⟨v, w⟩ := v
  try dsimp -zeta only
  iapply (resume d (X := iprop(ctx m K ∗ wtS m d 2 0 30 ∗ ((st4 m d ∗ bPts d cc0_stg3_0 (ewst m d) ∗ bPts d cc0_stg4_0 (swst m d) ∗ bPts d cc0_stg5_0 fo)
      ∗ (bigSep (fin d 32) (wtF m d 0) ∗ accPts d d (acc m d)) ∗ bPts d cc0_scratch1 (rsAll m d) ∗ bigSep (EX d) (wtF m d 3)
      ∗ semVal (barCell d) 0 ∗ zE (F := F) d 1 ∗ (post m d -∗ Q ⟨⟩)))) ?_)
  rotate_left
  · isplitr; · iexact HC
    isplitl [HS]; · iexact HS
    isplitl [H4 Hew Hsw Ho]
    · isplitl [H4]; · iexact H4
      isplitl [Hew]; · iexact Hew
      isplitl [Hsw] <;> iassumption
    isplitl [Hf0 Hac]
    · isplitl [Hf0] <;> iassumption
    isplitl [Hrs]; · iexact Hrs
    isplitl [Hf3]; · iexact Hf3
    isplitl [Hzb]; · iexact Hzb
    isplitl [Hz1]; · unfold zE; iexact Hz1
    iexact Hk
  iterate 2 refine wt_step m K d 2 (fun c => mayWait_none d _) (by decide) (by generalize d = e; revert e; decide +kernel) (by decide +kernel) (by exact fun h => rfl) ?_
  iintro ⟨-, HS, ⟨H4, Hew, Hsw, Ho⟩, Hf0, Hrs, Hf3, Hzb, Hz1, Hk⟩
  ihave Hj := (acc_join m d) $$ Hf0
  icases Hj with ⟨Hac, Hz0⟩
  ihave Hj := (ag_join m d) $$ [Hf3 HS]
  · isplitl [Hf3] <;> iassumption
  icases Hj with ⟨Hag, Hz2, Hz3, HO⟩
  iapply (ld d (mr := agM) (Finset.subset_univ _)) $$ Hag; iintro Hag
  rw [read_ag]
  iapply (ld d (mr := oM) (Finset.subset_univ _)) $$ Ho; iintro Ho
  iapply (st d (mr := oM) (r := Rect.unit (s := S512x512) ![0, 0] S512x512.size inb_S512x512_S512x512_0_0) (Finset.subset_univ _)) $$ Ho; iintro Ho
  rw [write_o]
  iapply (rt d)
  iapply Hk
  unfold post
  isplitl [H4 Hew Hsw Ho]
  · isplitl [H4]; · iexact H4
    isplitl [Hew]; · iexact Hew
    isplitl [Hsw]; · iexact Hsw
    iexact Ho
  isplitl [Hac Hrs Hag]
  · isplitl [Hac]; · iexact Hac
    isplitl [Hrs] <;> iassumption
  isplitl [Hzb]; · iexact Hzb
  isplitr [HO]
  · isplitl [Hz0]; · iexact Hz0
    isplitl [Hz1]; · iexact Hz1
    isplitl [Hz2] <;> iassumption
  iexact HO

end Cert.KernelIdeal.AR

end
-- ==== Proof.Body.lean ====
/-
# The kernel's body, as the pipeline runs it
-/
module

public import proofs.«01_k».proof.Proof.Core
public import proofs.«01_k».proof.Proof.Gen.KernelIdeal.Points

@[expose] public section

set_option maxRecDepth 16384
set_option maxHeartbeats 2000000

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CI → ℕ) (d : Dev nD)

/-! ## What a device starts from and ends with -/

/-- Device `d`'s positions and the duties it pays. -/
def lin : sProp 𝕄 :=
  iprop(atPos ER (barCell d) 0 ∅ 0 ∗ (bigSep Finset.univ fun k : Fin 4 => bigSep Finset.univ fun c : Dev nD => atPos ER (xCell k d c) 0 ∅ 0)
    ∗ bigSep (EX d) (fun c => dutyTok ER (barCell c) 0 d) ∗ bigSep (EX d) (tkX (F := F) d))

/-- Its credits: the units of its barrier and what the other devices send it. -/
def crs : sProp 𝕄 := iprop(cred (tallyAt (barCell d) () 31) ∗ bigSep (EX d) (crI (F := F) d 1) ∗ bigSep (EX d) (crI (F := F) d 3))

def start : sProp 𝕄 := iprop((∃ K, records m K ∗ lin (F := F) d) ∗ crs (F := F) d ∗ levAts L lv)

/-- The scratch buffers, at any contents. -/
def scr : sProp 𝕄 := iprop((∃ f, bPts (F := F) d cc0_scratch0 f) ∗ (∃ f, bPts (F := F) d cc0_scratch1 f) ∗ (∃ f, bPts (F := F) d cc0_scratch2 f))

/-- Every slot's cell closed. -/
def zs : sProp 𝕄 := bigSep Finset.univ fun k : Fin 4 => bigSep Finset.univ fun c : Dev nD => semVal (xCell k d c) 0

def Φ₀ : sProp 𝕄 := iprop(start m d ∗ scr (F := F) d)
def Φ₁ : sProp 𝕄 := iprop(scr (F := F) d ∗ zs (F := F) d ∗ semVal (barCell d) 0)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A device's own slots are in no transfer: their cells close at once. -/
theorem own_close (k : Fin 4) : iprop(records m K ∗ atPos ER (xCell k d d) 0 ∅ 0) ⊢ |={Set.univ}=> semVal (xCell k d d) 0 := by
  iintro ⟨#HR, Hat⟩
  ihave Hcell := (records_at m K (d, some (k, d))) $$ HR
  icases Hcell with ⟨#HI, -⟩
  imod (Rounds.cell_close ER (rd m) (Set.mem_univ (K (d, some (k, d)))) (fun h => h) (R := 0) (duties_own' m d k)) $$ [Hat] with Hz
  · isplitr; · iexact HI
    iexact Hat
  imodintro
  iexact Hz

omit [FloatOps F] in
theorem slots_any (f : (cc0_scratch1 : Ref sig .tc).ty.Contents (Elt F)) (g : (cc0_scratch2 : Ref sig .tc).ty.Contents (Elt F)) :
    iprop(bigSep (EX d) (fun c => dutyTok ER (barCell c) 0 d) ∗ bigSep (EX d) (fun c => rsPts d c f) ∗ bigSep (EX d) (fun c => agPts d c g))
      ⊢ bigSep (EX d) (sigI (F := F) d) := by
  rw [← bigSep_two, ← bigSep_two]
  refine bigSep_mono fun c _ => ?_
  have h : iprop(dutyTok ER (barCell c) 0 d ∗ rsPts d c f ∗ agPts d c g) ⊢ sigI (F := F) d c := by
    unfold sigI barPay
    iintro ⟨H1, H2, H3⟩
    isplitl [H1]; · iexact H1
    isplitl [H2]
    · iexists f; iexact H2
    · iexists g; iexact H3
  exact h

/-- The own slots' positions apart from the others'. -/
theorem at_split (k : Fin 4) : (bigSep Finset.univ fun c : Dev nD => atPos ER (xCell k d c) 0 ∅ 0 : sProp 𝕄) = iprop(atPos ER (xCell k d d) 0 ∅ 0 ∗ atE (F := F) d k) :=
  bigSep_own d _
theorem z_split (k : Fin 4) : (bigSep Finset.univ fun c : Dev nD => semVal (xCell k d c) 0 : sProp 𝕄) = iprop(semVal (xCell k d d) 0 ∗ zE (F := F) d k) :=
  bigSep_own d _

/-- The own slots' cells, closed. -/
def zO : sProp 𝕄 := iprop(semVal (xCell 0 d d) 0 ∗ semVal (xCell 1 d d) 0 ∗ semVal (xCell 2 d d) 0 ∗ semVal (xCell 3 d d) 0)

theorem prep : iprop(records m K ∗ lin (F := F) d ∗ crs (F := F) d ∗ scr (F := F) d ∗ ow (F := F) d (O₀ d)
      ∗ (st4 m d ∗ bPts d cc0_stg3_0 (ewst m d) ∗ bPts d cc0_stg4_0 (swst m d) ∗ ∃ f, bPts (F := F) d cc0_stg5_0 f))
    ⊢ |={Set.univ}=> iprop(pre m d ∗ zO (F := F) d) := by
  unfold lin crs scr
  rw [bigSep_fin4, at_split, at_split, at_split, at_split]
  iintro ⟨#HR, ⟨Hab, ⟨⟨Ho0, Ha0⟩, ⟨Ho1, Ha1⟩, ⟨Ho2, Ha2⟩, Ho3, Ha3⟩, Htb, Htk⟩, ⟨Hcb, Hc1, Hc3⟩, ⟨Hac, ⟨%f, Hrs⟩, ⟨%g, Hag⟩⟩, HO, Hst⟩
  imod (own_close m K d 0) $$ [Ho0] with Ho0
  · isplitr; · iexact HR
    iexact Ho0
  imod (own_close m K d 1) $$ [Ho1] with Ho1
  · isplitr; · iexact HR
    iexact Ho1
  imod (own_close m K d 2) $$ [Ho2] with Ho2
  · isplitr; · iexact HR
    iexact Ho2
  imod (own_close m K d 3) $$ [Ho3] with Ho3
  · isplitr; · iexact HR
    iexact Ho3
  imodintro
  ihave Hrs := (Entails.of_eq ((rs_split d f).trans (bigSep_own d _))) $$ Hrs
  icases Hrs with ⟨Hrd, Hrs⟩
  ihave Hag := (Entails.of_eq ((ag_split d g).trans (bigSep_own d _))) $$ Hag
  icases Hag with ⟨Had, Hag⟩
  ihave Hsg := (slots_any d f g) $$ [Htb Hrs Hag]
  · isplitl [Htb]; · iexact Htb
    isplitl [Hrs] <;> iassumption
  unfold pre zO
  isplitr [Ho0 Ho1 Ho2 Ho3]
  · isplitl [HO Hsg]
    · unfold sigS; rw [rem_zero, show OB d (EX d) = O₀ d from rfl]
      isplitl [HO] <;> iassumption
    isplitl [Hcb Hab]
    · isplitl [Hcb] <;> iassumption
    isplitl [Hst]; · iexact Hst
    isplitl [Hac Hrd Had]
    · isplitl [Hac]; · iexact Hac
      isplitl [Hrd]; · iexists f; iexact Hrd
      iexists g; iexact Had
    isplitl [Htk]; · iexact Htk
    isplitl [Hc1 Hc3]
    · isplitl [Hc1] <;> iassumption
    isplitl [Ha0]; · iexact Ha0
    isplitl [Ha1]; · iexact Ha1
    isplitl [Ha2] <;> iassumption
  isplitl [Ho0]; · iexact Ho0
  isplitl [Ho1]; · iexact Ho1
  isplitl [Ho2] <;> iassumption

theorem z_join : iprop((zE (F := F) d 0 ∗ zE (F := F) d 1 ∗ zE (F := F) d 2 ∗ zE (F := F) d 3) ∗ zO (F := F) d) ⊢ zs (F := F) d := by
  unfold zs zO
  rw [bigSep_fin4, z_split, z_split, z_split, z_split]
  iintro ⟨⟨H0, H1, H2, H3⟩, G0, G1, G2, G3⟩
  isplitl [H0 G0]
  · isplitl [G0] <;> iassumption
  isplitl [H1 G1]
  · isplitl [G1] <;> iassumption
  isplitl [H2 G2]
  · isplitl [G2] <;> iassumption
  isplitl [G3] <;> iassumption

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xst m c
    | ⟨1, _⟩ => rwst m c
    | ⟨2, _⟩ => rist m c
    | ⟨3, _⟩ => ewst m c
    | ⟨4, _⟩ => swst m c
    | ⟨5, _⟩ => out m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
theorem owns_whole_eq (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) (((d : Dev nD) : Thread nD τ).loc b), ⌜f = X⌝ ∗ (((d : Thread nD τ).loc b) ↦{fullShare} f)) := by
  unfold owns; simp only [Memref.view_whole, View.read_whole, View.set_whole]

/-- A staging buffer at contents `X`. -/
abbrev stg (b : Ref sig .tc) (X : b.ty.Contents (Elt F)) : sProp 𝕄 :=
  iprop(∃ f : Buf (Elt F) (((d : Dev nD) : Thread nD τ).loc b), ⌜f = X⌝ ∗ bPts d b f)

def bodyPre : sProp 𝕄 :=
  iprop(Φ₀ m d ∗ (dats m 0 d).owesAt () t0_0.castSucc
    ∗ (∃ e, stg d cc0_stg0_0 ((dats m 0 d).before (0 : Fin 6) t0_0 e)) ∗ (∃ e, stg d cc0_stg1_0 ((dats m 0 d).before (1 : Fin 6) t0_0 e))
    ∗ (∃ e, stg d cc0_stg2_0 ((dats m 0 d).before (2 : Fin 6) t0_0 e)) ∗ (∃ e, stg d cc0_stg3_0 ((dats m 0 d).before (3 : Fin 6) t0_0 e))
    ∗ (∃ e, stg d cc0_stg4_0 ((dats m 0 d).before (4 : Fin 6) t0_0 e)) ∗ (∃ e, stg d cc0_stg5_0 ((dats m 0 d).before (5 : Fin 6) t0_0 e)))

def bodyPost : sProp 𝕄 :=
  iprop(Φ₁ (F := F) d ∗ (dats m 0 d).owesAt () t0_0.succ
    ∗ stg d cc0_stg0_0 (xst m d) ∗ stg d cc0_stg1_0 (rwst m d) ∗ stg d cc0_stg2_0 (rist m d) ∗ stg d cc0_stg3_0 (ewst m d)
    ∗ stg d cc0_stg4_0 (swst m d) ∗ stg d cc0_stg5_0 (out m d))

/-- A staging buffer the pipeline has filled. -/
theorem stg_filled (b : Ref sig .tc) (X : (b.ty.Contents (Elt F)) → (b.ty.Contents (Elt F))) (Y : b.ty.Contents (Elt F)) (h : ∀ e, X e = Y) :
    iprop(∃ e, stg d b (X e)) ⊢ bPts d b Y := by
  iintro ⟨%e, %f, %hf, H⟩
  rw [h e] at hf
  subst hf
  iexact H

theorem stg_back (b : Ref sig .tc) (Y : b.ty.Contents (Elt F)) : bPts d b Y ⊢ stg d b Y := by
  iintro H
  iexists Y; isplitr; · (ipureintro; rfl)
  iexact H

theorem before_0 (e) : (dats m 0 d).before (0 : Fin 6) t0_0 e = xst m d := by unfold Dat.before; rw [if_pos (fetch0_0 t0_0)]; rfl
theorem before_1 (e) : (dats m 0 d).before (1 : Fin 6) t0_0 e = rwst m d := by unfold Dat.before; rw [if_pos (fetch0_1 t0_0)]; rfl
theorem before_2 (e) : (dats m 0 d).before (2 : Fin 6) t0_0 e = rist m d := by unfold Dat.before; rw [if_pos (fetch0_2 t0_0)]; rfl
theorem before_3 (e) : (dats m 0 d).before (3 : Fin 6) t0_0 e = ewst m d := by unfold Dat.before; rw [if_pos (fetch0_3 t0_0)]; rfl
theorem before_4 (e) : (dats m 0 d).before (4 : Fin 6) t0_0 e = swst m d := by unfold Dat.before; rw [if_pos (fetch0_4 t0_0)]; rfl

theorem owes_in : ((dats m 0 d).owesAt () t0_0.castSucc : sProp 𝕄) ⊢ ow (F := F) d (O₀ d) := by
  unfold Dat.owesAt Pipeline.owesWithin ow
  iintro ⟨%W, %hW, HO⟩
  iexists W; iexact HO
theorem owes_out : ow (F := F) d 0 ⊢ ((dats m 0 d).owesAt () t0_0.succ : sProp 𝕄) := by
  unfold Dat.owesAt Pipeline.owesWithin ow
  iintro ⟨%W, HO⟩
  iexists W
  isplitr; · ipureintro; exact fun _ _ => Or.inl trivial
  iexact HO

theorem finish : iprop(post m d ∗ zO (F := F) d) ⊢ bodyPost m d := by
  unfold post bodyPost st4 Φ₁ scr
  iintro ⟨⟨⟨⟨Hx, Hrw, Hri⟩, Hew, Hsw, Ho⟩, ⟨Hac, Hrs, Hag⟩, Hzb, Hz, HO⟩, Hzo⟩
  isplitl [Hac Hrs Hag Hzb Hz Hzo]
  · isplitl [Hac Hrs Hag]
    · isplitl [Hac]; · iexists _; iexact Hac
      isplitl [Hrs]; · iexists _; iexact Hrs
      iexists _; iexact Hag
    isplitl [Hz Hzo]
    · iapply (z_join (F := F) d); isplitl [Hz] <;> iassumption
    iexact Hzb
  isplitl [HO]; · iapply (owes_out m d); iexact HO
  isplitl [Hx]; · iapply (stg_back d cc0_stg0_0); iexact Hx
  isplitl [Hrw]; · iapply (stg_back d cc0_stg1_0); iexact Hrw
  isplitl [Hri]; · iapply (stg_back d cc0_stg2_0); iexact Hri
  isplitl [Hew]; · iapply (stg_back d cc0_stg3_0); iexact Hew
  isplitl [Hsw]; · iapply (stg_back d cc0_stg4_0); iexact Hsw
  iapply (stg_back d cc0_stg5_0); iexact Ho

theorem sound_body : bodyPre m d ⊢ WP d (cc0_body xM (Memref.isWhole_whole _) rwM (Memref.isWhole_whole _) riM (Memref.isWhole_whole _) ewM (Memref.isWhole_whole _) swM (Memref.isWhole_whole _) oM (Memref.isWhole_whole _) accM (Memref.isWhole_whole _) rsM (Memref.isWhole_whole _) agM (Memref.isWhole_whole _) cc0_scratch3 cc0_scratch4 cc0_scratch5 cc0_scratch6) (fun _ => bodyPost m d) := by
  unfold bodyPre Φ₀ start
  iintro ⟨⟨⟨⟨%K, #HR, Hlin⟩, Hcrs, #HL⟩, Hscr⟩, HO, Hx, Hrw, Hri, Hew, Hsw, ⟨%e, %f, %hf, Ho⟩⟩
  imod (prep m K d) $$ [Hlin Hcrs Hscr HO Hx Hrw Hri Hew Hsw Ho] with ⟨Hpre, Hz⟩
  · isplitr; · iexact HR
    isplitl [Hlin]; · iexact Hlin
    isplitl [Hcrs]; · iexact Hcrs
    isplitl [Hscr]; · iexact Hscr
    isplitl [HO]; · iapply (owes_in m d); iexact HO
    unfold st4
    isplitl [Hx Hrw Hri]
    · isplitl [Hx]; · iapply (stg_filled d cc0_stg0_0 _ _ (before_0 m d)); iexact Hx
      isplitl [Hrw]; · iapply (stg_filled d cc0_stg1_0 _ _ (before_1 m d)); iexact Hrw
      iapply (stg_filled d cc0_stg2_0 _ _ (before_2 m d)); iexact Hri
    isplitl [Hew]; · iapply (stg_filled d cc0_stg3_0 _ _ (before_3 m d)); iexact Hew
    isplitl [Hsw]; · iapply (stg_filled d cc0_stg4_0 _ _ (before_4 m d)); iexact Hsw
    iexists f; iexact Ho
  iapply (core m K d)
  isplitr
  · unfold ctx; isplitr; · iexact HR
    iexact HL
  isplitl [Hpre]; · iexact Hpre
  iintro Hpost
  iapply (finish m d)
  isplitl [Hpost] <;> iassumption

/-- The library's body obligation on core `d`. -/
theorem body_obligation : BodyObligation (dats (F := F) m 0 d) (defs₀ (F := F)) 𝒱₀ () Set.univ := fun t => by
  rw [fin_N0 t]
  rw [bigSep_W0, bigSep_W0]
  simp only [owns_whole_eq]
  exact sound_body m d

end Cert.KernelIdeal.AR

end
-- ==== Proof.Run.lean ====
/-
# The launch and the run
-/
module

public import proofs.«01_k».proof.Proof.Body
public import Idealize.ShloMosaic.Lib.Pipeline.CollectiveSegs

@[expose] public section

set_option maxRecDepth 16384
set_option maxHeartbeats 2000000

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg) (K : Dev nD × CI → ℕ) (d c : Dev nD)

/-! ## The cells and their tokens -/

/-- The kernel's own semaphores. -/
abbrev osem : Fin 4 × Dev nD → SemLoc sig := fun p => .dma (dsem p.1 p.2)

theorem ownSemFacts : Pipeline.OwnSemFacts cfg0.spec osem := by decide +kernel

theorem share_eq (c : Dev nD) (w : Fin cfg0.W) : (dats m 0 c).share w = fullShare := by unfold Dat.share; split <;> rfl

theorem kcell_injective : Function.Injective (kcell : Dev nD × CI → GSem nD τ sig) := by
  rintro ⟨c, k⟩ ⟨c', k'⟩ h
  have h1 : c = c' := by
    have := congrArg (fun g : GSem nD τ sig => g.1.1) h
    rcases k with _ | ⟨k, j⟩ <;> rcases k' with _ | ⟨k', j'⟩ <;> exact this
  subst h1
  rcases k with _ | ⟨k, j⟩ <;> rcases k' with _ | ⟨k', j'⟩
  · rfl
  · exact absurd (congrArg Prod.snd h) (by intro e; cases e)
  · exact absurd (congrArg Prod.snd h) (by intro e; cases e)
  · have h2 : dsem k j = dsem k' j' := SemLoc.dma.inj (congrArg Prod.snd h)
    obtain ⟨rfl, rfl⟩ := dsem_inj h2
    rfl

def allCells : Finset (GSem nD τ sig) := Finset.univ.map ⟨kcell, kcell_injective⟩

/-- The cell of device `c` in which device `e` has a duty. -/
abbrev tcell (c e : Dev nD) : Option (Fin 4) → CI := fun | none => none | some k => some (k, e)
abbrev tokOf (p : Dev nD × Dev nD × Option (Fin 4)) : GSem nD τ sig × ℕ × Dev nD := (kcell (p.1, tcell p.1 p.2.1 p.2.2), 0, p.2.1)
theorem tokOf_injective : Function.Injective tokOf := by
  rintro ⟨c, e, k⟩ ⟨c', e', k'⟩ h
  have h1 : e = e' := congrArg (fun x : GSem nD τ sig × ℕ × Dev nD => x.2.2) h
  subst h1
  have h2 := kcell_injective (congrArg Prod.fst h)
  have h3 : c = c' := congrArg Prod.fst h2
  subst h3
  have h4 : tcell c e k = tcell c e k' := congrArg Prod.snd h2
  rcases k with _ | k <;> rcases k' with _ | k'
  · rfl
  · exact absurd h4 (by simp [tcell])
  · exact absurd h4 (by simp [tcell])
  · have := Option.some.inj h4
    have h5 : k = k' := congrArg Prod.fst this
    rw [h5]
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens of the duties in device `c`'s cells. -/
def toks : sProp 𝕄 := bigSep Finset.univ fun e : Dev nD =>
  iprop(dutyTok ER (barCell c) 0 e ∗ dutyTok ER (xCell 0 c e) 0 e ∗ dutyTok ER (xCell 1 c e) 0 e ∗ dutyTok ER (xCell 2 c e) 0 e ∗ dutyTok ER (xCell 3 c e) 0 e)

/-- What the launch deals device `c`. -/
def G : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ toks (F := F) c)

/-- What the launch makes of it. -/
def G' : sProp 𝕄 := iprop(∃ K, records m K ∗ lin (F := F) c)

omit [FloatOps F] in
theorem bigSep_option {I : Type} [Fintype I] [DecidableEq I] (Φ : Option I → sProp 𝕄) :
    bigSep Finset.univ Φ = iprop(Φ none ∗ bigSep Finset.univ fun i => Φ (some i)) := by
  rw [bigSep_erase (Finset.mem_univ (none : Option I)),
    show (Finset.univ : Finset (Option I)).erase none = Finset.univ.map Function.Embedding.some from by
      ext x; cases x <;> simp, bigSep_map]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks; rw [bigSep_univ_prod]
      exact bigSep_congr fun e _ => by rw [bigSep_option, bigSep_fin4]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq : (Pipeline.ownSems0 (Ix := Unit) (Name := ℕ) (U := UU) (Lvl := ℕ) (Val := Elt F) (τ := τ) osem c : sProp 𝕄) = zs (F := F) c := by
  unfold Pipeline.ownSems0 zs
  rw [bigSep_univ_prod]
omit [FloatOps F] in
/-- The barrier semaphore is the launch's one unscoped semaphore. -/
theorem unscopedSems0_eq : (unscopedSems0 c : sProp 𝕄) = semVal (barCell c) 0 := by
  unfold unscopedSems0; rw [bigSep_eq_bigSepL_of_eq [SemLoc.reg barS] (by decide +kernel) (by decide +kernel)]; rfl

omit [FloatOps F] in
theorem sems0_eq :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_option]
  unfold Pipeline.ownSems0
  iintro ⟨HS, HB⟩
  isplitl [HB]; · iexact HB
  iexact HS

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k : CI => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A device keeps the tokens of its sends and hands the others round. -/
theorem keep_toks (f : Dev nD → Dev nD → sProp 𝕄) :
    (bigSep Finset.univ fun c => bigSep Finset.univ fun e => f c e) ⊢ bigSep Finset.univ fun c => bigSep (EX c) fun e => f c e :=
  bigSep_mono fun c _ => bigSep_subset (Finset.erase_subset _ _)
omit [FloatOps F] in
theorem pass_toks (f : Dev nD → Dev nD → sProp 𝕄) :
    (bigSep Finset.univ fun c => bigSep Finset.univ fun e => f c e) ⊢ bigSep Finset.univ fun e => bigSep (EX e) fun c => f c e := by
  rw [bigSep_univ_comm]
  exact bigSep_mono fun e _ => bigSep_subset (Finset.erase_subset _ _)

/-- The tokens of the duties device `c` pays. -/
def payToks : sProp 𝕄 := iprop(bigSep (EX c) (fun e => dutyTok ER (barCell e) 0 c) ∗ bigSep (EX c) (tkX (F := F) c))

omit [FloatOps F] in
theorem payToks_intro : iprop(bigSep (EX c) (fun e => dutyTok ER (barCell e) 0 c) ∗ bigSep (EX c) (fun e => dutyTok ER (xCell 0 c e) 0 e) ∗ bigSep (EX c) (fun e => dutyTok ER (xCell 1 e c) 0 c)
      ∗ bigSep (EX c) (fun e => dutyTok ER (xCell 2 c e) 0 e) ∗ bigSep (EX c) (fun e => dutyTok ER (xCell 3 e c) 0 c)) ⊢ payToks (F := F) c := by
  unfold payToks
  rw [show tkX (F := F) c = fun e => iprop((dutyTok ER (xCell 0 c e) 0 e ∗ dutyTok ER (xCell 1 e c) 0 c) ∗ (dutyTok ER (xCell 2 c e) 0 e ∗ dutyTok ER (xCell 3 e c) 0 c)) from rfl,
    bigSep_two, bigSep_two, bigSep_two]
  iintro ⟨H, H0, H1, H2, H3⟩
  isplitl [H]; · iexact H
  isplitl [H0 H1]
  · isplitl [H0] <;> iassumption
  isplitl [H2] <;> iassumption

omit [FloatOps F] in
theorem toks_around : (bigSep Finset.univ fun c : Dev nD => (toks c : sProp 𝕄)) ⊢ bigSep Finset.univ fun c : Dev nD => payToks (F := F) c := by
  refine BIBase.Entails.trans ?_ (bigSep_mono fun c _ => payToks_intro (F := F) c)
  unfold toks
  simp only [bigSep_sep']
  iintro ⟨H, H0, H1, H2, H3⟩
  isplitl [H]; · iapply (pass_toks (F := F) fun c e => dutyTok ER (barCell c) 0 e); iexact H
  isplitl [H0]; · iapply (keep_toks (F := F) fun c e => dutyTok ER (xCell 0 c e) 0 e); iexact H0
  isplitl [H1]; · iapply (pass_toks (F := F) fun c e => dutyTok ER (xCell 1 c e) 0 e); iexact H1
  isplitl [H2]; · iapply (keep_toks (F := F) fun c e => dutyTok ER (xCell 2 c e) 0 e); iexact H2
  iapply (pass_toks (F := F) fun c e => dutyTok ER (xCell 3 c e) 0 e); iexact H3

/-- What stays with device `c`: its positions, and the tokens of the duties it pays. -/
theorem lin_intro : iprop((bigSep Finset.univ fun k : CI => atPos ER (kcell (c, k)) 0 ∅ 0) ∗ payToks (F := F) c) ⊢ lin (F := F) c := by
  rw [bigSep_option, bigSep_univ_prod]
  unfold payToks lin
  iintro ⟨⟨Hb, Hx⟩, H1, H2⟩
  isplitl [Hb]; · iexact Hb
  isplitl [Hx]; · iexact Hx
  isplitl [H1] <;> iassumption

theorem regroup :
    (bigSep Finset.univ fun c : Dev nD => iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m) κ (kcell ck) : sProp 𝕄))) $$ HI
  icases HK with ⟨%K, #HI⟩
  ihave Htk := (toks_around (F := F)) $$ Htok
  ihave Hl := ((Entails.of_eq (bigSep_sep' Finset.univ (fun c : Dev nD => bigSep Finset.univ fun k : CI => (atPos ER (kcell (c, k)) 0 ∅ 0 : sProp 𝕄)) (payToks (F := F))).symm).trans
      (bigSep_mono fun c _ => lin_intro (F := F) c)) $$ [Hat Htk]
  · isplitl [Hat] <;> iassumption
  iapply (bigSep_with_persistent (R := records m K) (Φ := lin (F := F)) fun c _ => by unfold G'; iintro ⟨H1, H2⟩; iexists K; isplitl [H1] <;> iassumption)
  isplitr
  · unfold records
    rw [bigSep_sep']
    isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_inj {a b : Dev nD} (h : barCell a = barCell b) : a = b := congrArg (fun g : GSem nD τ sig => g.1.1) h
theorem x_inj {k k' : Fin 4} {a b j j' : Dev nD} (h : xCell k a j = xCell k' b j') : k = k' ∧ a = b ∧ j = j' := by
  have h2 : dsem k j = dsem k' j' := SemLoc.dma.inj (congrArg Prod.snd h)
  exact ⟨(dsem_inj h2).1, congrArg (fun g : GSem nD τ sig => g.1.1) h, (dsem_inj h2).2⟩

theorem tallies_apply (S : Finset (Dev nD)) (f : Dev nD → GSem nD τ sig) (n : ℕ) (g : GSem nD τ sig) :
    tallies S f n g () = ∑ c ∈ S, if g = f c then n else 0 := by
  unfold tallies
  rw [Finset.sum_apply, Finsupp.finsetSum_apply]
  exact Finset.sum_congr rfl fun c _ => by rw [tallyAt_apply]; simp only [and_true]

/-- A sweep gives nothing to a cell it does not name, -/
theorem tallies_off {S : Finset (Dev nD)} {f : Dev nD → GSem nD τ sig} {n : ℕ} {g : GSem nD τ sig} (h : ∀ c, g ≠ f c) :
    tallies S f n g () = 0 := by
  rw [tallies_apply]; exact Finset.sum_eq_zero fun c _ => if_neg (h c)
/-- and to one it names what it gives each. -/
theorem tallies_on {S : Finset (Dev nD)} {f : Dev nD → GSem nD τ sig} {n : ℕ} {g : GSem nD τ sig} (a : Dev nD) (h : ∀ c, g = f c ↔ a = c) :
    tallies S f n g () = if a ∈ S then n else 0 := by
  rw [tallies_apply, Finset.sum_congr rfl fun c _ => if_congr (h c) rfl rfl, Finset.sum_ite_eq]

theorem bar_ne_x (a b j : Dev nD) (k : Fin 4) : barCell a ≠ xCell k b j := fun h => by cases congrArg Prod.snd h

theorem owed_split (g : GSem nD τ sig) : O₀ d g () = tallies (EX d) (fun c => xCell 3 c d) N g () + tallies (EX d) (fun c => xCell 1 c d) N g () + tallies (EX d) barCell 1 g () := by
  unfold O₀ OB OR OA
  rw [Pi.add_apply, Finsupp.add_apply, Pi.add_apply, Finsupp.add_apply]

theorem owed_bar : O₀ d (barCell c) () = if c ∈ EX d then 1 else 0 := by
  rw [owed_split, tallies_off fun e => bar_ne_x c e d 3, tallies_off fun e => bar_ne_x c e d 1, tallies_on c fun e => ⟨bar_inj, fun h => h ▸ rfl⟩, Nat.zero_add]

/-- A sweep's tally at a slot: it is the sender's. -/
theorem owed_slot (k : Fin 4) (j : Dev nD) : tallies (EX d) (fun e => xCell k e d) N (xCell k c j) () = if d = j then (if c ∈ EX d then N else 0) else 0 := by
  by_cases h : d = j
  · subst h
    rw [if_pos rfl, tallies_on c fun e => ⟨fun h => (x_inj h).2.1, fun h => h ▸ rfl⟩]
  · rw [if_neg h, tallies_off fun e he => h (x_inj he).2.2.symm]

theorem owed_x (k : Fin 4) (hk : k = 1 ∨ k = 3) (j : Dev nD) : O₀ d (xCell k c j) () = if d = j then (if c ∈ EX d then N else 0) else 0 := by
  rw [owed_split, tallies_off (f := barCell) fun e h => bar_ne_x _ _ _ _ h.symm, Nat.add_zero]
  rcases hk with rfl | rfl
  · rw [tallies_off (f := fun c => xCell 3 c d) fun e h => absurd (x_inj h).1 (by decide), owed_slot, Nat.zero_add]
  · rw [tallies_off (f := fun c => xCell 1 c d) fun e h => absurd (x_inj h).1 (by decide), owed_slot, Nat.add_zero]

theorem sum_owed_bar : (∑ d : Dev nD, if c ∈ EX d then 1 else 0) = 31 := by
  rw [← Finset.card_filter, show (Finset.univ.filter fun d : Dev nD => c ∈ EX d) = Finset.univ.erase c from by
    ext d; simp [Finset.mem_erase, eq_comm], Finset.card_erase_of_mem (Finset.mem_univ _)]
  rfl

theorem launch_bar : tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_owed_bar]

theorem launch_x (k : Fin 4) (hk : k = 1 ∨ k = 3) (j : Dev nD) (hj : j ∈ EX c) :
    tallyOn (xCell k c j) (launchCredit (Pipeline.owing O₀) 0 (xCell k c j)) = (tallyAt (xCell k c j) () N : CellTallies nD τ sig Unit) := by
  unfold tallyAt; refine congrArg _ (Finsupp.ext fun u => ?_); cases u
  rw [Pipeline.launchCredit_owing, Finsupp.single_eq_same, Finset.sum_congr rfl fun d _ => owed_x d c k hk j,
    Finset.sum_ite_eq' Finset.univ j, if_pos (Finset.mem_univ _), if_pos (Finset.mem_erase.mpr ⟨(Finset.ne_of_mem_erase hj).symm, Finset.mem_univ _⟩)]

/-- The semaphore of a cell. -/
abbrev kloc : CI → SemLoc sig := fun | none => .reg barS | some p => osem p
theorem kloc_injective : Function.Injective kloc := fun a b h =>
  congrArg Prod.snd (kcell_injective (show kcell ((0 : Dev nD), a) = kcell ((0 : Dev nD), b) from by
    rcases a with _ | ⟨k, j⟩ <;> rcases b with _ | ⟨k', j'⟩ <;> exact congrArg (Prod.mk _) h))

theorem crs_slots (k : Fin 4) (hk : k = 1 ∨ k = 3) :
    (bigSep Finset.univ fun j : Dev nD => cred (tallyOn (xCell k c j) (launchCredit (Pipeline.owing O₀) 0 (xCell k c j))) : sProp 𝕄)
      ⊢ bigSep (EX c) (crI (F := F) c k) :=
  (bigSep_subset (Finset.erase_subset _ _)).trans (Entails.of_eq (bigSep_congr fun j hj => by rw [launch_x c k hk j hj]; rfl))

theorem creds : (Pipeline.launchCred O₀ c : sProp 𝕄) ⊢ crs (F := F) c := by
  unfold Pipeline.launchCred
  refine BIBase.Entails.trans (bigSep_subset (Finset.subset_univ (Finset.univ.map ⟨kloc, kloc_injective⟩))) ?_
  rw [bigSep_map, bigSep_option, bigSep_univ_prod, bigSep_fin4]
  unfold crs
  iintro ⟨H, -, H1, -, H3⟩
  isplitl [H]; · rw [← launch_bar]; iexact H
  isplitl [H1]
  · iapply (crs_slots (F := F) c 1 (.inl rfl)); iexact H1
  iapply (crs_slots (F := F) c 3 (.inr rfl)); iexact H3

/-! ## The launch theorem's side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

theorem phi1_exit : (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, ownSems0_eq, unscopedSems0_eq]
  unfold Φ₁ scr
  iintro ⟨Hr, Hz, Hb⟩
  isplitl [Hb]; · iexact Hb
  isplitl [Hz] <;> iassumption

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- Every weakly fair run of the module on its thirty-two devices, from any memory with zero counters, ends with each
    device's arrays at the computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Every window's one block is its whole array -/

theorem blk_0 (f : Buf (Elt F) ((c : Thread nD τ).loc main_arg0)) : (win0_0.blk t0_0).view.read (Elt F) f = f :=
  Memref.read_access_unit_zero (Elt F) main_arg0 (show (fun a => win0_0.index t0_0 a * main_arg0.ty.shape.size a) = fun _ => 0 from funext fun a => by fin_cases a <;> decide)
    (fun a => by fin_cases a <;> decide) f
theorem blk_1 (f : Buf (Elt F) ((c : Thread nD τ).loc main_arg1)) : (win0_1.blk t0_0).view.read (Elt F) f = f :=
  Memref.read_access_unit_zero (Elt F) main_arg1 (show (fun a => win0_1.index t0_0 a * main_arg1.ty.shape.size a) = fun _ => 0 from funext fun a => by fin_cases a <;> decide)
    (fun a => by fin_cases a <;> decide) f
theorem blk_2 (f : Buf (Elt F) ((c : Thread nD τ).loc main_arg2)) : (win0_2.blk t0_0).view.read (Elt F) f = f :=
  Memref.read_access_unit_zero (Elt F) main_arg2 (show (fun a => win0_2.index t0_0 a * main_arg2.ty.shape.size a) = fun _ => 0 from funext fun a => by fin_cases a <;> decide)
    (fun a => by fin_cases a <;> decide) f
theorem blk_3 (f : Buf (Elt F) ((c : Thread nD τ).loc main_arg3)) : (win0_3.blk t0_0).view.read (Elt F) f = f :=
  Memref.read_access_unit_zero (Elt F) main_arg3 (show (fun a => win0_3.index t0_0 a * main_arg3.ty.shape.size a) = fun _ => 0 from funext fun a => by fin_cases a <;> decide)
    (fun a => by fin_cases a <;> decide) f
theorem blk_4 (f : Buf (Elt F) ((c : Thread nD τ).loc main_arg4)) : (win0_4.blk t0_0).view.read (Elt F) f = f :=
  Memref.read_access_unit_zero (Elt F) main_arg4 (show (fun a => win0_4.index t0_0 a * main_arg4.ty.shape.size a) = fun _ => 0 from funext fun a => by fin_cases a <;> decide)
    (fun a => by fin_cases a <;> decide) f
theorem blk_5 (f : Buf (Elt F) ((c : Thread nD τ).loc main_v1)) : (win0_5.blk t0_0).view.read (Elt F) f = f :=
  Memref.read_access_unit_zero (Elt F) main_v1 (show (fun a => win0_5.index t0_0 a * main_v1.ty.shape.size a) = fun _ => 0 from funext fun a => by fin_cases a <;> decide)
    (fun a => by fin_cases a <;> decide) f
theorem xst_eq : xst m c = m ((c : Thread nD τ).loc main_arg0) := blk_0 c _
theorem rwst_eq : rwst m c = m ((c : Thread nD τ).loc main_arg1) := blk_1 c _
theorem rist_eq : rist m c = m ((c : Thread nD τ).loc main_arg2) := blk_2 c _
theorem ewst_eq : ewst m c = m ((c : Thread nD τ).loc main_arg3) := blk_3 c _
theorem swst_eq : swst m c = m ((c : Thread nD τ).loc main_arg4) := blk_4 c _

/-- What is written back to the result array. -/
theorem finalA_out : finalA m c (5 : Fin 6) = out m c := by
  have hw : ((cfg0.win 5).blk t0_0).view.read (Elt F) (finalA m c (5 : Fin 6)) = (dats m 0 c).flushed 5 t0_0 := by
    unfold finalA
    rw [show cfg0.N = t0_0.val + 1 from N_0, Dat.arrAt_succ, if_pos (flush0_5 t0_0)]
    exact View.read_write_univ _ _
  exact (blk_5 c _).symm.trans (hw.trans rfl)

/-- The run's arguments and result. -/
theorem run_values : θ_run defs (onTc (τ := τ) (main (F := F))) ⟨m, fun _ => 0, ρ⟩ (fun r => (∀ c : Dev nD,
      r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c 5).trans (finalA_out m c),
    (h.1 c 0).trans ((dats m 0 c).arrAt_in 0 rfl _), (h.1 c 1).trans ((dats m 0 c).arrAt_in 1 rfl _), (h.1 c 2).trans ((dats m 0 c).arrAt_in 2 rfl _),
    (h.1 c 3).trans ((dats m 0 c).arrAt_in 3 rfl _), (h.1 c 4).trans ((dats m 0 c).arrAt_in 4 rfl _)⟩, h.2⟩) (run_main m ρ)

end Cert.KernelIdeal.AR

end
-- ==== Proof.Twin.lean ====
/-
# The kernel and its idealization are one program

No rewrite was applied by the idealization, so the two printed programs are the same term: their mains and their
definitions. What is proved of one for any float values is proved of the other.
-/
module

public import proofs.«01_k».proof.Proof.Run
public import proofs.«01_k».proof.Proof.Gen.Kernel

@[expose] public section

set_option maxRecDepth 100000
set_option maxHeartbeats 4000000

noncomputable section

namespace Cert.Twin

open Idealize.ShloMosaic Idealize.ShloMosaic.TcCoe Idealize.SL.Sem

variable {F : FTy → Type} [FloatOps F]

theorem defs₀_eq : Cert.Kernel.defs₀ (F := F) = Cert.KernelIdeal.defs₀ (F := F) := by
  unfold Cert.Kernel.defs₀ Cert.KernelIdeal.defs₀
  refine congrArg Defs.onTc ?_
  funext l v
  match l, v with
  | 0, (t, s) => rfl

theorem defs_eq : Cert.Kernel.defs (F := F) = Cert.KernelIdeal.defs (F := F) :=
  congrArg (Pipeline.defs _) defs₀_eq

theorem main_eq : Cert.Kernel.main (F := F) = Cert.KernelIdeal.main (F := F) := rfl

/-- The kernel as printed: its arguments end unchanged and its counters at zero. -/
theorem run_kernel (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)) ∧ r.2.sem = fun _ => 0) := by
  rw [defs_eq, main_eq]
  exact (θ_run _ _ _).mono (fun _ h => ⟨fun c => (h.1 c).2, h.2⟩) (Cert.KernelIdeal.AR.run_values m ρ)

end Cert.Twin

end
-- ==== Proof.Mix.lean ====
/-
# The mathematics both programs compute, one entry at a time

A row's probability of its own expert, and the sum over the 128 experts that the routing picks one of. The kernel's sum
runs device by device, four experts each, every term already times the probability; the reference's is multiplied at the
end. At most one term is not zero, so they agree in the extended reals with no finiteness asked.
-/
module

public import proofs.«01_k».proof.Proof.Gen.KernelIdeal
public import Idealize.ShloMosaic.Lib.Pointwise

@[expose] public section

set_option maxRecDepth 16384
set_option maxHeartbeats 2000000

noncomputable section

namespace Cert.Mix

open Idealize.ShloMosaic

/-- `v` if the word `w` is `b`, else zero. -/
abbrev pick (w b : BitVec 32) (v : EReal) : EReal := Scalar.select (IntOp.cmpi .eq w b) v 0

theorem cmpi_eq (a b : BitVec 32) : IntOp.cmpi .eq a b = if a = b then 1#1 else 0#1 := by
  unfold IntOp.cmpi
  by_cases h : a = b
  · simp [h]
  · rw [if_neg h]
    show BitVec.ofBool (a == b) = 0#1
    rw [beq_eq_false_iff_ne.mpr h]
    rfl

theorem pick_eq (w b : BitVec 32) (v : EReal) : pick w b v = if w = b then v else 0 := by
  unfold pick
  rw [cmpi_eq]
  by_cases h : w = b
  · rw [if_pos h, if_pos h]; rfl
  · rw [if_neg h, if_neg h]; rfl

theorem cmpi_comm (a b : BitVec 32) : IntOp.cmpi .eq a b = IntOp.cmpi .eq b a := by
  rw [cmpi_eq, cmpi_eq]; exact if_congr eq_comm rfl rfl

/-- A row's score for an expert. -/
def score (x : Fin 256 → EReal) (rw : Fin 256 → Fin 128 → EReal) (e : Fin 128) : EReal := ∑ k, x k * rw k e
/-- The row's largest score. -/
def top (x : Fin 256 → EReal) (rw : Fin 256 → Fin 128 → EReal) : EReal :=
  Finset.fold max (Ideal.ofBits .f32 4286578688#32) (score x rw) Finset.univ
/-- The row's probability of an expert. -/
def share (x : Fin 256 → EReal) (rw : Fin 256 → Fin 128 → EReal) (e : Fin 128) : EReal :=
  Ideal.div (Ideal.exp (score x rw e - top x rw)) (∑ e', Ideal.exp (score x rw e' - top x rw))
/-- Its probability of the expert it is routed to. -/
def prob (x : Fin 256 → EReal) (rw : Fin 256 → Fin 128 → EReal) (w : BitVec 32) : EReal :=
  ∑ e : Fin 128, pick w (BitVec.ofNat 32 e) (share x rw e)
/-- The routed expert's value of a row whose value at expert `e` is `D e`. -/
def routed (w : BitVec 32) (D : Fin 128 → EReal) : EReal := ∑ e : Fin 128, pick w (BitVec.ofNat 32 e) (D e)

theorem ofNat_inj {e e' : Fin 128} (h : BitVec.ofNat 32 (e : ℕ) = BitVec.ofNat 32 (e' : ℕ)) : e = e' := by
  have := congrArg BitVec.toNat h
  rw [BitVec.toNat_ofNat, BitVec.toNat_ofNat] at this
  have h1 := e.isLt; have h2 := e'.isLt
  exact Fin.ext (by omega)

/-- At most one expert is picked, so a factor may stand inside the sum or outside it. -/
theorem routed_mul (w : BitVec 32) (P : EReal) (D : Fin 128 → EReal) : routed w (fun e => P * D e) = P * routed w D := by
  unfold routed
  simp only [pick_eq]
  by_cases h : ∃ e : Fin 128, w = BitVec.ofNat 32 e
  · obtain ⟨e, rfl⟩ := h
    rw [Finset.sum_eq_single e (fun e' _ hne => if_neg fun h => hne (ofNat_inj h).symm) (fun h => absurd (Finset.mem_univ _) h),
      Finset.sum_eq_single e (fun e' _ hne => if_neg fun h => hne (ofNat_inj h).symm) (fun h => absurd (Finset.mem_univ _) h),
      if_pos rfl, if_pos rfl]
  · push Not at h
    rw [Finset.sum_eq_zero fun e _ => if_neg (h e), Finset.sum_eq_zero fun e _ => if_neg (h e), mul_zero]

/-- Expert `j` of device `c`. -/
def expert (c : Fin 32) (j : Fin 4) : Fin 128 := ⟨4 * c + j, by have := c.isLt; have := j.isLt; omega⟩

/-- The experts device by device. -/
theorem sum_experts (f : Fin 128 → EReal) : (∑ c : Fin 32, ∑ j : Fin 4, f (expert c j)) = ∑ e, f e := by
  rw [← Fintype.sum_prod_type' (f := fun c j => f (expert c j)), ← (finProdFinEquiv (m := 32) (n := 4)).sum_comp f]
  exact Finset.sum_congr rfl fun p _ => congrArg f (Fin.ext (by simp only [expert, finProdFinEquiv_apply_val]; omega))

/-- What the devices' partial results of an entry add up to. -/
theorem sum_devices (w : BitVec 32) (P : EReal) (D : Fin 128 → EReal) :
    (∑ c : Fin 32, ∑ j : Fin 4, pick w (BitVec.ofNat 32 (expert c j)) (P * D (expert c j))) = P * routed w D := by
  rw [sum_experts (fun e => pick w (BitVec.ofNat 32 e) (P * D e))]
  exact routed_mul w P D

end Cert.Mix

end
-- ==== Proof.RefEntry.lean ====
/-
# The reference's result, one entry at a time
-/
module

public import proofs.«01_k».proof.Proof.Mix
public import proofs.«01_k».proof.Proof.Gen.ReferenceIdeal.Run
public import Idealize.ShloMosaic.Lib.Pointwise

@[expose] public section

set_option maxRecDepth 16384
set_option maxHeartbeats 2000000

noncomputable section

namespace Cert.ReferenceIdeal.Entry

open Idealize.ShloMosaic Idealize.ShloMosaic.TcCoe Idealize.SL.Sem Cert.ReferenceIdeal Cert.ReferenceIdeal.Gen Cert.Mix

/-- The reference's result as a term of its arguments. -/
def result (x : FVec Ideal S512x256 .bf16) (rw : FVec Ideal S256x128 .bf16) (ri : IVec S512x1 32) (ew : FVec Ideal S128x256x512 .bf16) (sw : FVec Ideal S256x512 .bf16) :
    FVec Ideal S512x512 .f32 :=
  addf (Host.dotGeneral dot_S512x256_S256x512_S512x512_1_0_0_1_n_n none (extf .f32 x bitsLt_bf16_f32) (extf .f32 sw bitsLt_bf16_f32)) (mulf (broadcastInDim S512x512 ![0, 1] bcast_S512x1_S512x512_0_1 (broadcastInDim S512x1 ![0] bcast_S512_S512x1_0 (Host.reduceAdd (select (cmpi .eq (broadcastInDim S512x128 ![0, 1] bcast_S512x1_S512x128_0_1 ri) (iotaInDim S512x128 32 1)) (Host.divf (Host.exp (subf (Host.dotGeneral dot_S512x256_S256x128_S512x128_1_0_0_1_n_n none (extf .f32 x bitsLt_bf16_f32) (extf .f32 rw bitsLt_bf16_f32)) (broadcastInDim S512x128 ![0, 1] bcast_S512x1_S512x128_0_1 (broadcastInDim S512x1 ![0] bcast_S512_S512x1_0 (Host.reduce FloatOps.maximumf (Host.dotGeneral dot_S512x256_S256x128_S512x128_1_0_0_1_n_n none (extf .f32 x bitsLt_bf16_f32) (extf .f32 rw bitsLt_bf16_f32)) (constant S_ .f32 0xFF800000#32) reducesTo_S512x128_S512_d1 h_S_))))) (broadcastInDim S512x128 ![0, 1] bcast_S512x1_S512x128_0_1 (broadcastInDim S512x1 ![0] bcast_S512_S512x1_0 (Host.reduceAdd (Host.exp (subf (Host.dotGeneral dot_S512x256_S256x128_S512x128_1_0_0_1_n_n none (extf .f32 x bitsLt_bf16_f32) (extf .f32 rw bitsLt_bf16_f32)) (broadcastInDim S512x128 ![0, 1] bcast_S512x1_S512x128_0_1 (broadcastInDim S512x1 ![0] bcast_S512_S512x1_0 (Host.reduce FloatOps.maximumf (Host.dotGeneral dot_S512x256_S256x128_S512x128_1_0_0_1_n_n none (extf .f32 x bitsLt_bf16_f32) (extf .f32 rw bitsLt_bf16_f32)) (constant S_ .f32 0xFF800000#32) reducesTo_S512x128_S512_d1 h_S_))))) (constant S_ .f32 0x00000000#32) reducesTo_S512x128_S512_d1 h_S_)))) (broadcastInDim S512x128 ![] bcast_S_S512x128 (id (constant S_ .f32 0x00000000#32)))) (constant S_ .f32 0x00000000#32) reducesTo_S512x128_S512_d1 h_S_))) (Host.reduceAdd (select (broadcastInDim S512x128x512 ![0, 1, 2] bcast_S512x128x1_S512x128x512_0_1_2 (broadcastInDim S512x128x1 ![0, 1] bcast_S512x128_S512x128x1_0_1 (cmpi .eq (broadcastInDim S512x128 ![0, 1] bcast_S512x1_S512x128_0_1 ri) (iotaInDim S512x128 32 1)))) (Host.dotGeneral dot_S512x256_S128x256x512_S512x128x512_1_1_0_02_n_n none (extf .f32 x bitsLt_bf16_f32) (extf .f32 ew bitsLt_bf16_f32)) (broadcastInDim S512x128x512 ![] bcast_S_S512x128x512 (id (constant S_ .f32 0x00000000#32)))) (constant S_ .f32 0x00000000#32) reducesTo_S512x128x512_S512x512_d1 h_S_))

theorem zero_S (h : ix0 = ix0) : (id (constant (F := Ideal) S_ .f32 0x00000000#32) : FVec Ideal S_ .f32) ix0 = 0 := by
  show Ideal.ofBits .f32 0x00000000#32 = 0
  simp [Ideal.ofBits, Ideal.ieee]

theorem result_apply (x : FVec Ideal S512x256 .bf16) (rw : FVec Ideal S256x128 .bf16) (ri : IVec S512x1 32) (ew : FVec Ideal S128x256x512 .bf16) (sw : FVec Ideal S256x512 .bf16) (r o : Fin 512) :
    result x rw ri ew sw (ix2 r o) = (∑ k, x (ix2 r k) * sw (ix2 k o))
      + prob (fun k => x (ix2 r k)) (fun k e => rw (ix2 k e)) (ri (ix2 r 0)) * routed (ri (ix2 r 0)) fun e => ∑ k, x (ix2 r k) * ew (ix3 e k o) := by
  pointwise [result]
  rw [zero_S rfl]
  rfl

end Cert.ReferenceIdeal.Entry

end
-- ==== Proof.KerEntry.lean ====
/-
# The kernel's result, one entry at a time

Row `r` of the result: device `r / 16` reduced it, adding up all devices' partial results of it.
-/
module

public import proofs.«01_k».proof.Proof.Mix
public import proofs.«01_k».proof.Proof.Run
public import Idealize.ShloMosaic.Lib.Pointwise
public import Idealize.ShloMosaic.Lib.Pointwise.IndexBridge
public import Idealize.ShloMosaic.Lib.Layout

@[expose] public section

set_option maxRecDepth 16384
set_option maxHeartbeats 2000000

noncomputable section

namespace Cert.KernelIdeal.Entry

open Idealize.ShloMosaic Idealize.ShloMosaic.TcCoe Idealize.SL.Sem Cert.KernelIdeal Cert.KernelIdeal.Gen Cert.KernelIdeal.AR Cert.Mix

theorem pay4_apply (x : FVec Ideal S512x256 .bf16) (rw : FVec Ideal S256x128 .bf16) (ri : IVec S512x1 32) (r : Fin 512) :
    k0_pay4 (F := Ideal) x rw ri (ix2 r 0) = prob (fun k => x (ix2 r k)) (fun k e => rw (ix2 k e)) (ri (ix2 r 0)) := by
  pointwise [k0_pay4, k0_pay2, k0_pay3]
  unfold prob pick
  exact Finset.sum_congr rfl fun e _ => by rw [cmpi_comm]; rfl

theorem pay8_apply (x : FVec Ideal S512x256 .bf16) (ri : IVec S512x1 32) (p : FVec Ideal S512x1 .f32) (w v2 : BitVec 32)
    (e0 e1 e2 e3 : FVec Ideal S1x256x512 .bf16) (r o : Fin 512) :
    k0_pay8 (k0_pay2 (F := Ideal) x) (k0_pay3 (F := Ideal) ri) p (k0_pay6 v2 (k0_pay2 (F := Ideal) x) (k0_pay3 (F := Ideal) ri) p (k0_pay5 (F := Ideal)) w e0 e1 e2) (k0_pay7 v2) e3 (ix2 r o)
      = pick (ri (ix2 r 0)) (Scalar.addi w 0#32) (p (ix2 r 0) * ∑ k, x (ix2 r k) * e0 (ix3 0 k o))
        + pick (ri (ix2 r 0)) (Scalar.addi (Scalar.muli v2 4#32) 1#32) (p (ix2 r 0) * ∑ k, x (ix2 r k) * e1 (ix3 0 k o))
        + pick (ri (ix2 r 0)) (Scalar.addi (Scalar.muli v2 4#32) 2#32) (p (ix2 r 0) * ∑ k, x (ix2 r k) * e2 (ix3 0 k o))
        + pick (ri (ix2 r 0)) (Scalar.addi (Scalar.muli v2 4#32) 3#32) (p (ix2 r 0) * ∑ k, x (ix2 r k) * e3 (ix3 0 k o)) := by
  pointwise [k0_pay8, k0_pay7, k0_pay6, k0_pay5, k0_pay2, k0_pay3]

theorem pay11_apply (v : FVec Ideal S32x16x512 .bf16) (r : Fin 16) (o : Fin 512) : k0_pay11 (F := Ideal) v (ix3 0 r o) = ∑ c, v (ix3 c r o) := by
  pointwise [k0_pay11]

theorem pay1_apply (v : FVec Ideal S32x16x512 .bf16) (x : FVec Ideal S512x256 .bf16) (sw : FVec Ideal S256x512 .bf16) (r o : Fin 512) :
    k0_pay1 (F := Ideal) (k0_pay9 (k0_pay2 x) sw) v (ix2 r o)
      = (∑ k, x (ix2 r k) * sw (ix2 k o)) + v (ix3 ⟨r / 16, by omega⟩ ⟨r % 16, by omega⟩ o) := by
  pointwise [k0_pay1, k0_pay9, k0_pay2]

/-- The number of expert `j` of device `d`, as the kernel reckons it. -/
theorem word_0 (d : Dev nD) : Scalar.addi (Scalar.muli (posW d) 4#32) 0#32 = BitVec.ofNat 32 (expert d 0) := by revert d; decide +kernel
theorem word_1 (d : Dev nD) : Scalar.addi (Scalar.muli (posW d) 4#32) 1#32 = BitVec.ofNat 32 (expert d 1) := by revert d; decide +kernel
theorem word_2 (d : Dev nD) : Scalar.addi (Scalar.muli (posW d) 4#32) 2#32 = BitVec.ofNat 32 (expert d 2) := by revert d; decide +kernel
theorem word_3 (d : Dev nD) : Scalar.addi (Scalar.muli (posW d) 4#32) 3#32 = BitVec.ofNat 32 (expert d 3) := by revert d; decide +kernel

variable (m : (ℓ : Loc nD τ sig) → Buf (Elt Ideal) ℓ)
variable (x : FVec Ideal S512x256 .bf16) (rw : FVec Ideal S256x128 .bf16) (ri : IVec S512x1 32) (ew : FVec Ideal ⟨3, ![128, 256, 512]⟩ .bf16) (sw : FVec Ideal S256x512 .bf16)

/-- The arguments as the claim lays them: copies, and the experts' weights four to a device. -/
structure Laid : Prop where
  a0 : ∀ c : Dev nD, m ((c.tc : Thread nD τ).loc main_arg0) = x
  a1 : ∀ c : Dev nD, m ((c.tc : Thread nD τ).loc main_arg1) = rw
  a2 : ∀ c : Dev nD, m ((c.tc : Thread nD τ).loc main_arg2) = ri
  a3 : ∀ c : Dev nD, m ((c.tc : Thread nD τ).loc main_arg3) = Layout.block ⟨3, ![4, 256, 512]⟩ ⟨3, ![128, 256, 512]⟩ 0 32 c ew
  a4 : ∀ c : Dev nD, m ((c.tc : Thread nD τ).loc main_arg4) = sw

variable {m x rw ri ew sw}

/-- A device's four experts' weights. -/
theorem ew_at (h : Laid m x rw ri ew sw) (c : Dev nD) (j : Fin 4) (k : Fin 256) (o : Fin 512) : ewst m c (ix3 j k o) = ew (ix3 (expert c j) k o) := by
  rw [ewst_eq, h.a3]
  refine congrArg ew (funext fun a => Fin.ext ?_)
  fin_cases a <;> simp [Layout.Tiles.idx, expert, ix3, Nat.mul_comm]

/-- A row of the device's block, read by itself. -/
theorem row_0 (c : Dev nD) (k : Fin 256) (o : Fin 512) : ewRow0 m c (ix3 0 k o) = ewst m c (ix3 0 k o) := by
  show ewst m c _ = _
  refine congrArg (ewst m c) (funext fun a => Fin.ext ?_)
  rw [View.emb_whole]
  fin_cases a <;> exact (LoadRect.idx_apply _ _ _).trans (by simp [ix3])

theorem row_1 (c : Dev nD) (k : Fin 256) (o : Fin 512) : ewRow1 m c (ix3 0 k o) = ewst m c (ix3 1 k o) := by
  show ewst m c _ = _
  refine congrArg (ewst m c) (funext fun a => Fin.ext ?_)
  rw [View.emb_whole]
  fin_cases a <;> exact (LoadRect.idx_apply _ _ _).trans (by simp [ix3])

theorem row_2 (c : Dev nD) (k : Fin 256) (o : Fin 512) : ewRow2 m c (ix3 0 k o) = ewst m c (ix3 2 k o) := by
  show ewst m c _ = _
  refine congrArg (ewst m c) (funext fun a => Fin.ext ?_)
  rw [View.emb_whole]
  fin_cases a <;> exact (LoadRect.idx_apply _ _ _).trans (by simp [ix3])

theorem row_3 (c : Dev nD) (k : Fin 256) (o : Fin 512) : ewRow3 m c (ix3 0 k o) = ewst m c (ix3 3 k o) := by
  show ewst m c _ = _
  refine congrArg (ewst m c) (funext fun a => Fin.ext ?_)
  rw [View.emb_whole]
  fin_cases a <;> exact (LoadRect.idx_apply _ _ _).trans (by simp [ix3])

/-- A device's partial result: its four experts' picks. -/
theorem acc_at (h : Laid m x rw ri ew sw) (c : Dev nD) (r o : Fin 512) :
    acc m c (ix2 r o) = ∑ j : Fin 4, pick (ri (ix2 r 0)) (BitVec.ofNat 32 (expert c j))
      (prob (fun k => x (ix2 r k)) (fun k e => rw (ix2 k e)) (ri (ix2 r 0)) * ∑ k, x (ix2 r k) * ew (ix3 (expert c j) k o)) := by
  have hx : xst m c = x := (xst_eq m c).trans (h.a0 c)
  have hr : rwst m c = rw := (rwst_eq m c).trans (h.a1 c)
  have hi : rist m c = ri := (rist_eq m c).trans (h.a2 c)
  unfold acc
  rw [hx, hr, hi]
  refine (pay8_apply x ri _ _ _ _ _ _ _ r o).trans ?_
  rw [word_0, word_1, word_2, word_3, Fin.sum_univ_four]
  simp only [row_0, row_1, row_2, row_3, ew_at h]
  rw [pay4_apply]

/-- A row of device `d`'s sixteen, added up over the devices. -/
theorem red_at (h : Laid m x rw ri ew sw) (d : Dev nD) (s : Fin 16) (o : Fin 512) (r : Fin 512) (hr : rowOf d s = r) :
    red m d (ix3 0 s o) = prob (fun k => x (ix2 r k)) (fun k e => rw (ix2 k e)) (ri (ix2 r 0))
      * routed (ri (ix2 r 0)) fun e => ∑ k, x (ix2 r k) * ew (ix3 e k o) := by
  unfold red
  rw [pay11_apply, ← sum_devices]
  refine Finset.sum_congr rfl fun c _ => Eq.trans ?_ (acc_at h c r o)
  show acc m c (ValueIdx.ix2 (rowOf d s) o) = _
  rw [hr, ix2_eq_valueIdx]

/-- The kernel's result, on every device. -/
theorem out_at (h : Laid m x rw ri ew sw) (c : Dev nD) (r o : Fin 512) :
    out m c (ix2 r o) = (∑ k, x (ix2 r k) * sw (ix2 k o))
      + prob (fun k => x (ix2 r k)) (fun k e => rw (ix2 k e)) (ri (ix2 r 0)) * routed (ri (ix2 r 0)) fun e => ∑ k, x (ix2 r k) * ew (ix3 e k o) := by
  have hx : xst m c = x := (xst_eq m c).trans (h.a0 c)
  have hs : swst m c = sw := (swst_eq m c).trans (h.a4 c)
  unfold out
  rw [hx, hs, pay1_apply]
  refine congrArg _ ?_
  show red m ⟨r / 16, _⟩ (ValueIdx.ix3 0 ⟨r % 16, _⟩ o) = _
  rw [← ix3_eq_valueIdx]
  exact red_at h _ _ o r (Fin.ext (Nat.div_add_mod r.val 16))

end Cert.KernelIdeal.Entry

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.RefEntry
public import proofs.«01_k».proof.Proof.KerEntry
public import Idealize.ShloMosaic.Adequacy
public import Idealize.ShloMosaic.Init

@[expose] public section

noncomputable section

namespace Cert.Proof

open Idealize.ShloMosaic Idealize.SL.Sem

/-- The kernel runs to its end at the machine's floats, its arguments as they were and its counters at zero. -/
theorem kernel_frame : quiescent_Kernel (hKernel := Cert.Kernel.Gen.facts) := fun m g _ => Cert.Twin.run_kernel m g

/-- So does its idealization. -/
theorem ideal_frame : quiescent_KernelIdeal (hKernelIdeal := Cert.KernelIdeal.Gen.facts) := fun m g _ =>
  (θ_run _ _ _).mono (fun _ h => ⟨fun c => (h.1 c).2, h.2⟩) (Cert.KernelIdeal.AR.run_values m g)

/-- And the reference, which has no counter. -/
theorem reference_frame : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The kernel's result on every device is the reference's. -/
theorem value : algebraic_KernelIdeal_ReferenceIdeal (hKernelIdeal := Cert.KernelIdeal.Gen.facts) (hReferenceIdeal := Cert.ReferenceIdeal.Gen.facts) := by
  intro m g m' g' _ hm
  refine ⟨_, ?_, (θ_run _ _ _).mono (fun r h => h 0) (Cert.ReferenceIdeal.Value.run m' g')⟩
  refine (θ_run _ _ _).mono (fun r h c => ⟨((h.1 c).1).trans ?_, (h.1 c).2⟩) (Cert.KernelIdeal.AR.run_values m g)
  have hl : Cert.KernelIdeal.Entry.Laid m _ _ _ _ _ :=
    ⟨fun c => (hm c).1, fun c => (hm c).2.1, fun c => (hm c).2.2.1, fun c => (hm c).2.2.2.1, fun c => (hm c).2.2.2.2⟩
  refine funext fun j => ?_
  rw [eq_ix2 j]
  exact (Cert.KernelIdeal.Entry.out_at hl c (j 0) (j 1)).trans (Cert.ReferenceIdeal.Entry.result_apply _ _ _ _ _ (j 0) (j 1)).symm

theorem claim : Cert.Claim := ⟨Cert.Kernel.Gen.facts, Cert.KernelIdeal.Gen.facts, Cert.ReferenceIdeal.Gen.facts,
  kernel_frame, ideal_frame, reference_frame, trivial, value⟩

end Cert.Proof

end
